-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![2048, 4096]⟩ (Layout.meshBlock [2, 2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 4096]⟩ ⟨2, ![1024, 4096]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x4096 : Shape := ⟨2, ![1024, 4096]⟩
abbrev S512x4096 : Shape := ⟨2, ![512, 4096]⟩
abbrev S8x512x512 : Shape := ⟨3, ![8, 512, 512]⟩
abbrev S8x128x512 : Shape := ⟨3, ![8, 128, 512]⟩
abbrev S5x8 : Shape := ⟨2, ![5, 8]⟩
abbrev S_ : Shape := ⟨0, ![]⟩
abbrev S1024x128 : Shape := ⟨2, ![1024, 128]⟩
abbrev S1024x512 : Shape := ⟨2, ![1024, 512]⟩
abbrev S128x512 : Shape := ⟨2, ![128, 512]⟩
abbrev S1x128x512 : Shape := ⟨3, ![1, 128, 512]⟩
abbrev S1x1 : Shape := ⟨2, ![1, 1]⟩
abbrev S1x64x512 : Shape := ⟨3, ![1, 64, 512]⟩
abbrev S64x512 : Shape := ⟨2, ![64, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x1024, .bf16⟩
  | .hbm, ⟨1, _⟩ => ⟨S1024x4096, .bf16⟩
  | .hbm, ⟨2, _⟩ => ⟨S512x4096, .f32⟩
  | .local _ .vmem, ⟨0, _⟩ => ⟨S1024x1024, .bf16⟩
  | .local _ .vmem, ⟨1, _⟩ => ⟨S1024x4096, .bf16⟩
  | .local _ .vmem, ⟨2, _⟩ => ⟨S512x4096, .f32⟩
  | .local _ .vmem, ⟨3, _⟩ => ⟨S8x512x512, .bf16⟩
  | .local _ .vmem, ⟨4, _⟩ => ⟨S8x128x512, .bf16⟩
  | .local _ .vmem, ⟨5, _⟩ => ⟨S8x128x512, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => false
  | ⟨1, _⟩ => true
  | _ => false

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  (ofTc nBuf bufTy 2 83 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_95 : BitVec 32 := 4#32
  let v110 : BitVec 32 := Scalar.muli v17 c4_i32_95
  let v111 : BitVec 32 := Scalar.addi c0_i32 v110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_96 : BitVec 32 := 2#32
  let v112 : BitVec 32 := Scalar.muli v5 c2_i32_96
  let v113 : BitVec 32 := Scalar.addi v111 v112
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_97 : BitVec 32 := 1#32
  let v114 : BitVec 32 := Scalar.muli v8 c1_i32_97
  let v115 : BitVec 32 := Scalar.addi v113 v114
  v115.toNat
def k0_dev2 (d0 : Dev nD) : Nat :=
  let c0_i32_100 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_99 : BitVec 32 := 4#32
  let v116 : BitVec 32 := Scalar.muli v2 c4_i32_99
  let v117 : BitVec 32 := Scalar.addi c0_i32_100 v116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v118 : BitVec 32 := Scalar.muli v5 c2_i32_101
  let v119 : BitVec 32 := Scalar.addi v117 v118
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_102 : BitVec 32 := 1#32
  let v120 : BitVec 32 := Scalar.muli v18 c1_i32_102
  let v121 : BitVec 32 := Scalar.addi v119 v120
  v121.toNat
def k0_dev3 (d0 : Dev nD) : Nat :=
  let c0_i32_105 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_104 : BitVec 32 := 4#32
  let v122 : BitVec 32 := Scalar.muli v2 c4_i32_104
  let v123 : BitVec 32 := Scalar.addi c0_i32_105 v122
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_106 : BitVec 32 := 2#32
  let v124 : BitVec 32 := Scalar.muli v19 c2_i32_106
  let v125 : BitVec 32 := Scalar.addi v123 v124
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v126 : BitVec 32 := Scalar.muli v8 c1_i32_107
  let v127 : BitVec 32 := Scalar.addi v125 v126
  v127.toNat
def k0_off1 (d0 : Dev nD) : Fin 2 → Nat :=
  let c0_108 : Index := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_12 v2
  let c512_i32_13 : BitVec 32 := 512#32
  let v26 : BitVec 32 := Scalar.muli v25 c512_i32_13
  let c128_i32_14 : BitVec 32 := 128#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v27 : BitVec 32 := Scalar.muli c128_i32_14 v10
  let v28 : BitVec 32 := Scalar.addi v26 v27
  let v128 : Index := Scalar.indexCast v28
  ![0, v128.toNat]
def k0_dev4 (d0 : Dev nD) : Nat :=
  let c0_i32_119 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_118 : BitVec 32 := 4#32
  let v137 : BitVec 32 := Scalar.muli v17 c4_i32_118
  let v138 : BitVec 32 := Scalar.addi c0_i32_119 v137
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_120 : BitVec 32 := 2#32
  let v139 : BitVec 32 := Scalar.muli v5 c2_i32_120
  let v140 : BitVec 32 := Scalar.addi v138 v139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_121 : BitVec 32 := 1#32
  let v141 : BitVec 32 := Scalar.muli v8 c1_i32_121
  let v142 : BitVec 32 := Scalar.addi v140 v141
  v142.toNat
def k0_dev5 (d0 : Dev nD) : Nat :=
  let c0_i32_137 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_136 : BitVec 32 := 4#32
  let v160 : BitVec 32 := Scalar.muli v17 c4_i32_136
  let v161 : BitVec 32 := Scalar.addi c0_i32_137 v160
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_138 : BitVec 32 := 2#32
  let v162 : BitVec 32 := Scalar.muli v5 c2_i32_138
  let v163 : BitVec 32 := Scalar.addi v161 v162
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_139 : BitVec 32 := 1#32
  let v164 : BitVec 32 := Scalar.muli v8 c1_i32_139
  let v165 : BitVec 32 := Scalar.addi v163 v164
  v165.toNat
def k0_dev6 (d0 : Dev nD) : Nat :=
  let c0_i32_155 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_154 : BitVec 32 := 4#32
  let v183 : BitVec 32 := Scalar.muli v17 c4_i32_154
  let v184 : BitVec 32 := Scalar.addi c0_i32_155 v183
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_156 : BitVec 32 := 2#32
  let v185 : BitVec 32 := Scalar.muli v5 c2_i32_156
  let v186 : BitVec 32 := Scalar.addi v184 v185
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_157 : BitVec 32 := 1#32
  let v187 : BitVec 32 := Scalar.muli v8 c1_i32_157
  let v188 : BitVec 32 := Scalar.addi v186 v187
  v188.toNat
def k0_dev7 (d0 : Dev nD) : Nat :=
  let c0_i32_173 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_172 : BitVec 32 := 4#32
  let v206 : BitVec 32 := Scalar.muli v17 c4_i32_172
  let v207 : BitVec 32 := Scalar.addi c0_i32_173 v206
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_174 : BitVec 32 := 2#32
  let v208 : BitVec 32 := Scalar.muli v5 c2_i32_174
  let v209 : BitVec 32 := Scalar.addi v207 v208
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_175 : BitVec 32 := 1#32
  let v210 : BitVec 32 := Scalar.muli v8 c1_i32_175
  let v211 : BitVec 32 := Scalar.addi v209 v210
  v211.toNat
def k0_dev8 (d0 : Dev nD) : Nat :=
  let c0_i32_191 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_190 : BitVec 32 := 4#32
  let v229 : BitVec 32 := Scalar.muli v17 c4_i32_190
  let v230 : BitVec 32 := Scalar.addi c0_i32_191 v229
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_192 : BitVec 32 := 2#32
  let v231 : BitVec 32 := Scalar.muli v5 c2_i32_192
  let v232 : BitVec 32 := Scalar.addi v230 v231
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_193 : BitVec 32 := 1#32
  let v233 : BitVec 32 := Scalar.muli v8 c1_i32_193
  let v234 : BitVec 32 := Scalar.addi v232 v233
  v234.toNat
def k0_dev9 (d0 : Dev nD) : Nat :=
  let c0_i32_208 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_207 : BitVec 32 := 4#32
  let v252 : BitVec 32 := Scalar.muli v17 c4_i32_207
  let v253 : BitVec 32 := Scalar.addi c0_i32_208 v252
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_209 : BitVec 32 := 2#32
  let v254 : BitVec 32 := Scalar.muli v5 c2_i32_209
  let v255 : BitVec 32 := Scalar.addi v253 v254
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_210 : BitVec 32 := 1#32
  let v256 : BitVec 32 := Scalar.muli v8 c1_i32_210
  let v257 : BitVec 32 := Scalar.addi v255 v256
  v257.toNat
def k0_dev10 (d0 : Dev nD) : Nat :=
  let c0_i32_225 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_224 : BitVec 32 := 4#32
  let v275 : BitVec 32 := Scalar.muli v17 c4_i32_224
  let v276 : BitVec 32 := Scalar.addi c0_i32_225 v275
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_226 : BitVec 32 := 2#32
  let v277 : BitVec 32 := Scalar.muli v5 c2_i32_226
  let v278 : BitVec 32 := Scalar.addi v276 v277
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_227 : BitVec 32 := 1#32
  let v279 : BitVec 32 := Scalar.muli v8 c1_i32_227
  let v280 : BitVec 32 := Scalar.addi v278 v279
  v280.toNat
def k0_dev11 (d0 : Dev nD) : Nat :=
  let c0_i32_242 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_241 : BitVec 32 := 4#32
  let v298 : BitVec 32 := Scalar.muli v17 c4_i32_241
  let v299 : BitVec 32 := Scalar.addi c0_i32_242 v298
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_243 : BitVec 32 := 2#32
  let v300 : BitVec 32 := Scalar.muli v5 c2_i32_243
  let v301 : BitVec 32 := Scalar.addi v299 v300
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_244 : BitVec 32 := 1#32
  let v302 : BitVec 32 := Scalar.muli v8 c1_i32_244
  let v303 : BitVec 32 := Scalar.addi v301 v302
  v303.toNat
def k0_off2 (d0 : Dev nD) : Fin 2 → Nat :=
  let c0_249 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let v22 : BitVec 32 := Scalar.muli v2 c512_i32
  let c128_i32 : BitVec 32 := 128#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v23 : BitVec 32 := Scalar.muli c128_i32 v10
  let v24 : BitVec 32 := Scalar.addi v22 v23
  let v312 : Index := Scalar.indexCast v24
  ![0, v312.toNat]
def k0_off3 (d0 : Dev nD) : Fin 3 → Nat :=
  let c0_252 : Index := 0#32
  let c128_i32_251 : BitVec 32 := 128#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v318 : BitVec 32 := Scalar.muli c128_i32_251 v10
  let v319 : Index := Scalar.indexCast v318
  let c0_253 : Index := 0#32
  ![0, v319.toNat, 0]
def k0_off4 (d0 : Dev nD) : Fin 3 → Nat :=
  let c0_i32_289 : BitVec 32 := 0#32
  let c128_i32_16 : BitVec 32 := 128#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v30 : BitVec 32 := Scalar.muli c128_i32_16 v10
  let c0_i32_298 : BitVec 32 := 0#32
  ![0, v30.toNat, 0]
def k0_dev12 (d0 : Dev nD) : Nat :=
  let c0_i32_295 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_294 : BitVec 32 := 4#32
  let v356 : BitVec 32 := Scalar.muli v2 c4_i32_294
  let v357 : BitVec 32 := Scalar.addi c0_i32_295 v356
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_296 : BitVec 32 := 2#32
  let v358 : BitVec 32 := Scalar.muli v5 c2_i32_296
  let v359 : BitVec 32 := Scalar.addi v357 v358
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_297 : BitVec 32 := 1#32
  let v360 : BitVec 32 := Scalar.muli v18 c1_i32_297
  let v361 : BitVec 32 := Scalar.addi v359 v360
  v361.toNat
def k0_dev13 (d0 : Dev nD) : Nat :=
  let c0_i32_307 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_306 : BitVec 32 := 4#32
  let v370 : BitVec 32 := Scalar.muli v2 c4_i32_306
  let v371 : BitVec 32 := Scalar.addi c0_i32_307 v370
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_308 : BitVec 32 := 2#32
  let v372 : BitVec 32 := Scalar.muli v19 c2_i32_308
  let v373 : BitVec 32 := Scalar.addi v371 v372
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_309 : BitVec 32 := 1#32
  let v374 : BitVec 32 := Scalar.muli v8 c1_i32_309
  let v375 : BitVec 32 := Scalar.addi v373 v374
  v375.toNat
def k0_off5 (d0 : Dev nD) : Fin 3 → Nat :=
  let c1_315 : Index := 1#32
  let c128_i32_314 : BitVec 32 := 128#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v390 : BitVec 32 := Scalar.muli c128_i32_314 v10
  let v391 : Index := Scalar.indexCast v390
  let c0_316 : Index := 0#32
  ![1, v391.toNat, 0]
def k0_off6 (d0 : Dev nD) : Fin 3 → Nat :=
  let c1_i32_352 : BitVec 32 := 1#32
  let c128_i32_18 : BitVec 32 := 128#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v32 : BitVec 32 := Scalar.muli c128_i32_18 v10
  let c0_i32_361 : BitVec 32 := 0#32
  ![1, v32.toNat, 0]
def k0_dev14 (d0 : Dev nD) : Nat :=
  let c0_i32_358 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_357 : BitVec 32 := 4#32
  let v428 : BitVec 32 := Scalar.muli v2 c4_i32_357
  let v429 : BitVec 32 := Scalar.addi c0_i32_358 v428
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_359 : BitVec 32 := 2#32
  let v430 : BitVec 32 := Scalar.muli v5 c2_i32_359
  let v431 : BitVec 32 := Scalar.addi v429 v430
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_360 : BitVec 32 := 1#32
  let v432 : BitVec 32 := Scalar.muli v18 c1_i32_360
  let v433 : BitVec 32 := Scalar.addi v431 v432
  v433.toNat
def k0_dev15 (d0 : Dev nD) : Nat :=
  let c0_i32_370 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_369 : BitVec 32 := 4#32
  let v442 : BitVec 32 := Scalar.muli v2 c4_i32_369
  let v443 : BitVec 32 := Scalar.addi c0_i32_370 v442
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_371 : BitVec 32 := 2#32
  let v444 : BitVec 32 := Scalar.muli v19 c2_i32_371
  let v445 : BitVec 32 := Scalar.addi v443 v444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_372 : BitVec 32 := 1#32
  let v446 : BitVec 32 := Scalar.muli v8 c1_i32_372
  let v447 : BitVec 32 := Scalar.addi v445 v446
  v447.toNat
def k0_off7 (d0 : Dev nD) : Fin 3 → Nat :=
  let c2_378 : Index := 2#32
  let c128_i32_377 : BitVec 32 := 128#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v462 : BitVec 32 := Scalar.muli c128_i32_377 v10
  let v463 : Index := Scalar.indexCast v462
  let c0_379 : Index := 0#32
  ![2, v463.toNat, 0]
def k0_off8 (d0 : Dev nD) : Fin 3 → Nat :=
  let c2_i32_415 : BitVec 32 := 2#32
  let c128_i32_20 : BitVec 32 := 128#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v34 : BitVec 32 := Scalar.muli c128_i32_20 v10
  let c0_i32_424 : BitVec 32 := 0#32
  ![2, v34.toNat, 0]
def k0_dev16 (d0 : Dev nD) : Nat :=
  let c0_i32_421 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_420 : BitVec 32 := 4#32
  let v500 : BitVec 32 := Scalar.muli v2 c4_i32_420
  let v501 : BitVec 32 := Scalar.addi c0_i32_421 v500
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_422 : BitVec 32 := 2#32
  let v502 : BitVec 32 := Scalar.muli v5 c2_i32_422
  let v503 : BitVec 32 := Scalar.addi v501 v502
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_423 : BitVec 32 := 1#32
  let v504 : BitVec 32 := Scalar.muli v18 c1_i32_423
  let v505 : BitVec 32 := Scalar.addi v503 v504
  v505.toNat
def k0_dev17 (d0 : Dev nD) : Nat :=
  let c0_i32_433 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_432 : BitVec 32 := 4#32
  let v514 : BitVec 32 := Scalar.muli v2 c4_i32_432
  let v515 : BitVec 32 := Scalar.addi c0_i32_433 v514
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_434 : BitVec 32 := 2#32
  let v516 : BitVec 32 := Scalar.muli v19 c2_i32_434
  let v517 : BitVec 32 := Scalar.addi v515 v516
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_435 : BitVec 32 := 1#32
  let v518 : BitVec 32 := Scalar.muli v8 c1_i32_435
  let v519 : BitVec 32 := Scalar.addi v517 v518
  v519.toNat
def k0_off9 (d0 : Dev nD) : Fin 3 → Nat :=
  let c3_441 : Index := 3#32
  let c128_i32_440 : BitVec 32 := 128#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v534 : BitVec 32 := Scalar.muli c128_i32_440 v10
  let v535 : Index := Scalar.indexCast v534
  let c0_442 : Index := 0#32
  ![3, v535.toNat, 0]
def k0_off10 (d0 : Dev nD) : Fin 3 → Nat :=
  let c3_i32_478 : BitVec 32 := 3#32
  let c128_i32_22 : BitVec 32 := 128#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v36 : BitVec 32 := Scalar.muli c128_i32_22 v10
  let c0_i32_487 : BitVec 32 := 0#32
  ![3, v36.toNat, 0]
def k0_dev18 (d0 : Dev nD) : Nat :=
  let c0_i32_484 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_483 : BitVec 32 := 4#32
  let v572 : BitVec 32 := Scalar.muli v2 c4_i32_483
  let v573 : BitVec 32 := Scalar.addi c0_i32_484 v572
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_485 : BitVec 32 := 2#32
  let v574 : BitVec 32 := Scalar.muli v5 c2_i32_485
  let v575 : BitVec 32 := Scalar.addi v573 v574
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_486 : BitVec 32 := 1#32
  let v576 : BitVec 32 := Scalar.muli v18 c1_i32_486
  let v577 : BitVec 32 := Scalar.addi v575 v576
  v577.toNat
def k0_dev19 (d0 : Dev nD) : Nat :=
  let c0_i32_496 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_495 : BitVec 32 := 4#32
  let v586 : BitVec 32 := Scalar.muli v2 c4_i32_495
  let v587 : BitVec 32 := Scalar.addi c0_i32_496 v586
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_497 : BitVec 32 := 2#32
  let v588 : BitVec 32 := Scalar.muli v19 c2_i32_497
  let v589 : BitVec 32 := Scalar.addi v587 v588
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_498 : BitVec 32 := 1#32
  let v590 : BitVec 32 := Scalar.muli v8 c1_i32_498
  let v591 : BitVec 32 := Scalar.addi v589 v590
  v591.toNat
def k0_off11 (d0 : Dev nD) : Fin 3 → Nat :=
  let c4_504 : Index := 4#32
  let c128_i32_503 : BitVec 32 := 128#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v606 : BitVec 32 := Scalar.muli c128_i32_503 v10
  let v607 : Index := Scalar.indexCast v606
  let c0_505 : Index := 0#32
  ![4, v607.toNat, 0]
def k0_off12 (d0 : Dev nD) : Fin 3 → Nat :=
  let c4_i32_541 : BitVec 32 := 4#32
  let c128_i32_24 : BitVec 32 := 128#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v38 : BitVec 32 := Scalar.muli c128_i32_24 v10
  let c0_i32_550 : BitVec 32 := 0#32
  ![4, v38.toNat, 0]
def k0_dev20 (d0 : Dev nD) : Nat :=
  let c0_i32_547 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_546 : BitVec 32 := 4#32
  let v644 : BitVec 32 := Scalar.muli v2 c4_i32_546
  let v645 : BitVec 32 := Scalar.addi c0_i32_547 v644
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_548 : BitVec 32 := 2#32
  let v646 : BitVec 32 := Scalar.muli v5 c2_i32_548
  let v647 : BitVec 32 := Scalar.addi v645 v646
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_549 : BitVec 32 := 1#32
  let v648 : BitVec 32 := Scalar.muli v18 c1_i32_549
  let v649 : BitVec 32 := Scalar.addi v647 v648
  v649.toNat
def k0_dev21 (d0 : Dev nD) : Nat :=
  let c0_i32_559 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_558 : BitVec 32 := 4#32
  let v658 : BitVec 32 := Scalar.muli v2 c4_i32_558
  let v659 : BitVec 32 := Scalar.addi c0_i32_559 v658
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_560 : BitVec 32 := 2#32
  let v660 : BitVec 32 := Scalar.muli v19 c2_i32_560
  let v661 : BitVec 32 := Scalar.addi v659 v660
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_561 : BitVec 32 := 1#32
  let v662 : BitVec 32 := Scalar.muli v8 c1_i32_561
  let v663 : BitVec 32 := Scalar.addi v661 v662
  v663.toNat
def k0_off13 (d0 : Dev nD) : Fin 3 → Nat :=
  let c5_567 : Index := 5#32
  let c128_i32_566 : BitVec 32 := 128#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v678 : BitVec 32 := Scalar.muli c128_i32_566 v10
  let v679 : Index := Scalar.indexCast v678
  let c0_568 : Index := 0#32
  ![5, v679.toNat, 0]
def k0_off14 (d0 : Dev nD) : Fin 3 → Nat :=
  let c5_i32_604 : BitVec 32 := 5#32
  let c128_i32_26 : BitVec 32 := 128#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v40 : BitVec 32 := Scalar.muli c128_i32_26 v10
  let c0_i32_613 : BitVec 32 := 0#32
  ![5, v40.toNat, 0]
def k0_dev22 (d0 : Dev nD) : Nat :=
  let c0_i32_610 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_609 : BitVec 32 := 4#32
  let v716 : BitVec 32 := Scalar.muli v2 c4_i32_609
  let v717 : BitVec 32 := Scalar.addi c0_i32_610 v716
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_611 : BitVec 32 := 2#32
  let v718 : BitVec 32 := Scalar.muli v5 c2_i32_611
  let v719 : BitVec 32 := Scalar.addi v717 v718
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_612 : BitVec 32 := 1#32
  let v720 : BitVec 32 := Scalar.muli v18 c1_i32_612
  let v721 : BitVec 32 := Scalar.addi v719 v720
  v721.toNat
def k0_dev23 (d0 : Dev nD) : Nat :=
  let c0_i32_622 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_621 : BitVec 32 := 4#32
  let v730 : BitVec 32 := Scalar.muli v2 c4_i32_621
  let v731 : BitVec 32 := Scalar.addi c0_i32_622 v730
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_623 : BitVec 32 := 2#32
  let v732 : BitVec 32 := Scalar.muli v19 c2_i32_623
  let v733 : BitVec 32 := Scalar.addi v731 v732
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_624 : BitVec 32 := 1#32
  let v734 : BitVec 32 := Scalar.muli v8 c1_i32_624
  let v735 : BitVec 32 := Scalar.addi v733 v734
  v735.toNat
def k0_off15 (d0 : Dev nD) : Fin 3 → Nat :=
  let c6_630 : Index := 6#32
  let c128_i32_629 : BitVec 32 := 128#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v750 : BitVec 32 := Scalar.muli c128_i32_629 v10
  let v751 : Index := Scalar.indexCast v750
  let c0_631 : Index := 0#32
  ![6, v751.toNat, 0]
def k0_off16 (d0 : Dev nD) : Fin 3 → Nat :=
  let c6_i32_667 : BitVec 32 := 6#32
  let c128_i32_28 : BitVec 32 := 128#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v42 : BitVec 32 := Scalar.muli c128_i32_28 v10
  let c0_i32_676 : BitVec 32 := 0#32
  ![6, v42.toNat, 0]
def k0_dev24 (d0 : Dev nD) : Nat :=
  let c0_i32_673 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_672 : BitVec 32 := 4#32
  let v788 : BitVec 32 := Scalar.muli v2 c4_i32_672
  let v789 : BitVec 32 := Scalar.addi c0_i32_673 v788
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_674 : BitVec 32 := 2#32
  let v790 : BitVec 32 := Scalar.muli v5 c2_i32_674
  let v791 : BitVec 32 := Scalar.addi v789 v790
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_675 : BitVec 32 := 1#32
  let v792 : BitVec 32 := Scalar.muli v18 c1_i32_675
  let v793 : BitVec 32 := Scalar.addi v791 v792
  v793.toNat
def k0_dev25 (d0 : Dev nD) : Nat :=
  let c0_i32_685 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_684 : BitVec 32 := 4#32
  let v802 : BitVec 32 := Scalar.muli v2 c4_i32_684
  let v803 : BitVec 32 := Scalar.addi c0_i32_685 v802
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_686 : BitVec 32 := 2#32
  let v804 : BitVec 32 := Scalar.muli v19 c2_i32_686
  let v805 : BitVec 32 := Scalar.addi v803 v804
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_687 : BitVec 32 := 1#32
  let v806 : BitVec 32 := Scalar.muli v8 c1_i32_687
  let v807 : BitVec 32 := Scalar.addi v805 v806
  v807.toNat
def k0_off17 (d0 : Dev nD) : Fin 3 → Nat :=
  let c7_693 : Index := 7#32
  let c128_i32_692 : BitVec 32 := 128#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v822 : BitVec 32 := Scalar.muli c128_i32_692 v10
  let v823 : Index := Scalar.indexCast v822
  let c0_694 : Index := 0#32
  ![7, v823.toNat, 0]
def k0_off18 (d0 : Dev nD) : Fin 3 → Nat :=
  let c7_i32_730 : BitVec 32 := 7#32
  let c128_i32_30 : BitVec 32 := 128#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v44 : BitVec 32 := Scalar.muli c128_i32_30 v10
  let c0_i32_739 : BitVec 32 := 0#32
  ![7, v44.toNat, 0]
def k0_dev26 (d0 : Dev nD) : Nat :=
  let c0_i32_736 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_735 : BitVec 32 := 4#32
  let v860 : BitVec 32 := Scalar.muli v2 c4_i32_735
  let v861 : BitVec 32 := Scalar.addi c0_i32_736 v860
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_737 : BitVec 32 := 2#32
  let v862 : BitVec 32 := Scalar.muli v5 c2_i32_737
  let v863 : BitVec 32 := Scalar.addi v861 v862
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_738 : BitVec 32 := 1#32
  let v864 : BitVec 32 := Scalar.muli v18 c1_i32_738
  let v865 : BitVec 32 := Scalar.addi v863 v864
  v865.toNat
def k0_dev27 (d0 : Dev nD) : Nat :=
  let c0_i32_748 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_747 : BitVec 32 := 4#32
  let v874 : BitVec 32 := Scalar.muli v2 c4_i32_747
  let v875 : BitVec 32 := Scalar.addi c0_i32_748 v874
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_749 : BitVec 32 := 2#32
  let v876 : BitVec 32 := Scalar.muli v19 c2_i32_749
  let v877 : BitVec 32 := Scalar.addi v875 v876
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_750 : BitVec 32 := 1#32
  let v878 : BitVec 32 := Scalar.muli v8 c1_i32_750
  let v879 : BitVec 32 := Scalar.addi v877 v878
  v879.toNat
def k0_off19 (d0 : Dev nD) : Fin 3 → Nat :=
  let c0_i32_796 : BitVec 32 := 0#32
  let c128_i32_48 : BitVec 32 := 128#32
  let c2_i32_7 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v15 : BitVec 32 := Scalar.muli c2_i32_7 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v62 : BitVec 32 := Scalar.muli c128_i32_48 v16
  let c0_i32_805 : BitVec 32 := 0#32
  ![0, v62.toNat, 0]
def k0_dev28 (d0 : Dev nD) : Nat :=
  let c0_i32_802 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_801 : BitVec 32 := 4#32
  let v924 : BitVec 32 := Scalar.muli v2 c4_i32_801
  let v925 : BitVec 32 := Scalar.addi c0_i32_802 v924
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_803 : BitVec 32 := 2#32
  let v926 : BitVec 32 := Scalar.muli v5 c2_i32_803
  let v927 : BitVec 32 := Scalar.addi v925 v926
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_804 : BitVec 32 := 1#32
  let v928 : BitVec 32 := Scalar.muli v18 c1_i32_804
  let v929 : BitVec 32 := Scalar.addi v927 v928
  v929.toNat
def k0_off20 (d0 : Dev nD) : Fin 3 → Nat :=
  let c0_i32_808 : BitVec 32 := 0#32
  let c128_i32_64 : BitVec 32 := 128#32
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_4 v5
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let v13 : BitVec 32 := Scalar.addi v11 v12
  let v79 : BitVec 32 := Scalar.muli c128_i32_64 v13
  let c64_i32_65 : BitVec 32 := 64#32
  let v80 : BitVec 32 := Scalar.addi v79 c64_i32_65
  let c0_i32_817 : BitVec 32 := 0#32
  ![0, v80.toNat, 0]
def k0_dev29 (d0 : Dev nD) : Nat :=
  let c0_i32_814 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_813 : BitVec 32 := 4#32
  let v938 : BitVec 32 := Scalar.muli v2 c4_i32_813
  let v939 : BitVec 32 := Scalar.addi c0_i32_814 v938
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_815 : BitVec 32 := 2#32
  let v940 : BitVec 32 := Scalar.muli v19 c2_i32_815
  let v941 : BitVec 32 := Scalar.addi v939 v940
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_816 : BitVec 32 := 1#32
  let v942 : BitVec 32 := Scalar.muli v8 c1_i32_816
  let v943 : BitVec 32 := Scalar.addi v941 v942
  v943.toNat
def k0_off21 (d0 : Dev nD) : Fin 3 → Nat :=
  let c1_i32_862 : BitVec 32 := 1#32
  let c128_i32_50 : BitVec 32 := 128#32
  let c2_i32_7 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v15 : BitVec 32 := Scalar.muli c2_i32_7 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v64 : BitVec 32 := Scalar.muli c128_i32_50 v16
  let c0_i32_871 : BitVec 32 := 0#32
  ![1, v64.toNat, 0]
def k0_dev30 (d0 : Dev nD) : Nat :=
  let c0_i32_868 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_867 : BitVec 32 := 4#32
  let v988 : BitVec 32 := Scalar.muli v2 c4_i32_867
  let v989 : BitVec 32 := Scalar.addi c0_i32_868 v988
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_869 : BitVec 32 := 2#32
  let v990 : BitVec 32 := Scalar.muli v5 c2_i32_869
  let v991 : BitVec 32 := Scalar.addi v989 v990
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_870 : BitVec 32 := 1#32
  let v992 : BitVec 32 := Scalar.muli v18 c1_i32_870
  let v993 : BitVec 32 := Scalar.addi v991 v992
  v993.toNat
def k0_off22 (d0 : Dev nD) : Fin 3 → Nat :=
  let c1_i32_874 : BitVec 32 := 1#32
  let c128_i32_68 : BitVec 32 := 128#32
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_4 v5
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let v13 : BitVec 32 := Scalar.addi v11 v12
  let v83 : BitVec 32 := Scalar.muli c128_i32_68 v13
  let c64_i32_69 : BitVec 32 := 64#32
  let v84 : BitVec 32 := Scalar.addi v83 c64_i32_69
  let c0_i32_883 : BitVec 32 := 0#32
  ![1, v84.toNat, 0]
def k0_dev31 (d0 : Dev nD) : Nat :=
  let c0_i32_880 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_879 : BitVec 32 := 4#32
  let v1002 : BitVec 32 := Scalar.muli v2 c4_i32_879
  let v1003 : BitVec 32 := Scalar.addi c0_i32_880 v1002
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_881 : BitVec 32 := 2#32
  let v1004 : BitVec 32 := Scalar.muli v19 c2_i32_881
  let v1005 : BitVec 32 := Scalar.addi v1003 v1004
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_882 : BitVec 32 := 1#32
  let v1006 : BitVec 32 := Scalar.muli v8 c1_i32_882
  let v1007 : BitVec 32 := Scalar.addi v1005 v1006
  v1007.toNat
def k0_off23 (d0 : Dev nD) : Fin 3 → Nat :=
  let c2_i32_928 : BitVec 32 := 2#32
  let c128_i32_52 : BitVec 32 := 128#32
  let c2_i32_7 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v15 : BitVec 32 := Scalar.muli c2_i32_7 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v66 : BitVec 32 := Scalar.muli c128_i32_52 v16
  let c0_i32_937 : BitVec 32 := 0#32
  ![2, v66.toNat, 0]
def k0_dev32 (d0 : Dev nD) : Nat :=
  let c0_i32_934 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_933 : BitVec 32 := 4#32
  let v1052 : BitVec 32 := Scalar.muli v2 c4_i32_933
  let v1053 : BitVec 32 := Scalar.addi c0_i32_934 v1052
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_935 : BitVec 32 := 2#32
  let v1054 : BitVec 32 := Scalar.muli v5 c2_i32_935
  let v1055 : BitVec 32 := Scalar.addi v1053 v1054
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_936 : BitVec 32 := 1#32
  let v1056 : BitVec 32 := Scalar.muli v18 c1_i32_936
  let v1057 : BitVec 32 := Scalar.addi v1055 v1056
  v1057.toNat
def k0_off24 (d0 : Dev nD) : Fin 3 → Nat :=
  let c2_i32_940 : BitVec 32 := 2#32
  let c128_i32_72 : BitVec 32 := 128#32
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_4 v5
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let v13 : BitVec 32 := Scalar.addi v11 v12
  let v87 : BitVec 32 := Scalar.muli c128_i32_72 v13
  let c64_i32_73 : BitVec 32 := 64#32
  let v88 : BitVec 32 := Scalar.addi v87 c64_i32_73
  let c0_i32_949 : BitVec 32 := 0#32
  ![2, v88.toNat, 0]
def k0_dev33 (d0 : Dev nD) : Nat :=
  let c0_i32_946 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_945 : BitVec 32 := 4#32
  let v1066 : BitVec 32 := Scalar.muli v2 c4_i32_945
  let v1067 : BitVec 32 := Scalar.addi c0_i32_946 v1066
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_947 : BitVec 32 := 2#32
  let v1068 : BitVec 32 := Scalar.muli v19 c2_i32_947
  let v1069 : BitVec 32 := Scalar.addi v1067 v1068
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_948 : BitVec 32 := 1#32
  let v1070 : BitVec 32 := Scalar.muli v8 c1_i32_948
  let v1071 : BitVec 32 := Scalar.addi v1069 v1070
  v1071.toNat
def k0_off25 (d0 : Dev nD) : Fin 3 → Nat :=
  let c3_i32_994 : BitVec 32 := 3#32
  let c128_i32_54 : BitVec 32 := 128#32
  let c2_i32_7 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v15 : BitVec 32 := Scalar.muli c2_i32_7 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v68 : BitVec 32 := Scalar.muli c128_i32_54 v16
  let c0_i32_1003 : BitVec 32 := 0#32
  ![3, v68.toNat, 0]
def k0_dev34 (d0 : Dev nD) : Nat :=
  let c0_i32_1000 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_999 : BitVec 32 := 4#32
  let v1116 : BitVec 32 := Scalar.muli v2 c4_i32_999
  let v1117 : BitVec 32 := Scalar.addi c0_i32_1000 v1116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1001 : BitVec 32 := 2#32
  let v1118 : BitVec 32 := Scalar.muli v5 c2_i32_1001
  let v1119 : BitVec 32 := Scalar.addi v1117 v1118
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_1002 : BitVec 32 := 1#32
  let v1120 : BitVec 32 := Scalar.muli v18 c1_i32_1002
  let v1121 : BitVec 32 := Scalar.addi v1119 v1120
  v1121.toNat
def k0_off26 (d0 : Dev nD) : Fin 3 → Nat :=
  let c3_i32_1006 : BitVec 32 := 3#32
  let c128_i32_76 : BitVec 32 := 128#32
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_4 v5
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let v13 : BitVec 32 := Scalar.addi v11 v12
  let v91 : BitVec 32 := Scalar.muli c128_i32_76 v13
  let c64_i32_77 : BitVec 32 := 64#32
  let v92 : BitVec 32 := Scalar.addi v91 c64_i32_77
  let c0_i32_1015 : BitVec 32 := 0#32
  ![3, v92.toNat, 0]
def k0_dev35 (d0 : Dev nD) : Nat :=
  let c0_i32_1012 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1011 : BitVec 32 := 4#32
  let v1130 : BitVec 32 := Scalar.muli v2 c4_i32_1011
  let v1131 : BitVec 32 := Scalar.addi c0_i32_1012 v1130
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1013 : BitVec 32 := 2#32
  let v1132 : BitVec 32 := Scalar.muli v19 c2_i32_1013
  let v1133 : BitVec 32 := Scalar.addi v1131 v1132
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1014 : BitVec 32 := 1#32
  let v1134 : BitVec 32 := Scalar.muli v8 c1_i32_1014
  let v1135 : BitVec 32 := Scalar.addi v1133 v1134
  v1135.toNat
def k0_off27 (d0 : Dev nD) : Fin 3 → Nat :=
  let c4_i32_1060 : BitVec 32 := 4#32
  let c128_i32_56 : BitVec 32 := 128#32
  let c2_i32_7 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v15 : BitVec 32 := Scalar.muli c2_i32_7 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v70 : BitVec 32 := Scalar.muli c128_i32_56 v16
  let c0_i32_1069 : BitVec 32 := 0#32
  ![4, v70.toNat, 0]
def k0_dev36 (d0 : Dev nD) : Nat :=
  let c0_i32_1066 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1065 : BitVec 32 := 4#32
  let v1180 : BitVec 32 := Scalar.muli v2 c4_i32_1065
  let v1181 : BitVec 32 := Scalar.addi c0_i32_1066 v1180
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1067 : BitVec 32 := 2#32
  let v1182 : BitVec 32 := Scalar.muli v5 c2_i32_1067
  let v1183 : BitVec 32 := Scalar.addi v1181 v1182
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_1068 : BitVec 32 := 1#32
  let v1184 : BitVec 32 := Scalar.muli v18 c1_i32_1068
  let v1185 : BitVec 32 := Scalar.addi v1183 v1184
  v1185.toNat
def k0_off28 (d0 : Dev nD) : Fin 3 → Nat :=
  let c4_i32_1072 : BitVec 32 := 4#32
  let c128_i32_80 : BitVec 32 := 128#32
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_4 v5
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let v13 : BitVec 32 := Scalar.addi v11 v12
  let v95 : BitVec 32 := Scalar.muli c128_i32_80 v13
  let c64_i32_81 : BitVec 32 := 64#32
  let v96 : BitVec 32 := Scalar.addi v95 c64_i32_81
  let c0_i32_1081 : BitVec 32 := 0#32
  ![4, v96.toNat, 0]
def k0_dev37 (d0 : Dev nD) : Nat :=
  let c0_i32_1078 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1077 : BitVec 32 := 4#32
  let v1194 : BitVec 32 := Scalar.muli v2 c4_i32_1077
  let v1195 : BitVec 32 := Scalar.addi c0_i32_1078 v1194
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1079 : BitVec 32 := 2#32
  let v1196 : BitVec 32 := Scalar.muli v19 c2_i32_1079
  let v1197 : BitVec 32 := Scalar.addi v1195 v1196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1080 : BitVec 32 := 1#32
  let v1198 : BitVec 32 := Scalar.muli v8 c1_i32_1080
  let v1199 : BitVec 32 := Scalar.addi v1197 v1198
  v1199.toNat
def k0_off29 (d0 : Dev nD) : Fin 3 → Nat :=
  let c5_i32_1126 : BitVec 32 := 5#32
  let c128_i32_58 : BitVec 32 := 128#32
  let c2_i32_7 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v15 : BitVec 32 := Scalar.muli c2_i32_7 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v72 : BitVec 32 := Scalar.muli c128_i32_58 v16
  let c0_i32_1135 : BitVec 32 := 0#32
  ![5, v72.toNat, 0]
def k0_dev38 (d0 : Dev nD) : Nat :=
  let c0_i32_1132 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1131 : BitVec 32 := 4#32
  let v1244 : BitVec 32 := Scalar.muli v2 c4_i32_1131
  let v1245 : BitVec 32 := Scalar.addi c0_i32_1132 v1244
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1133 : BitVec 32 := 2#32
  let v1246 : BitVec 32 := Scalar.muli v5 c2_i32_1133
  let v1247 : BitVec 32 := Scalar.addi v1245 v1246
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_1134 : BitVec 32 := 1#32
  let v1248 : BitVec 32 := Scalar.muli v18 c1_i32_1134
  let v1249 : BitVec 32 := Scalar.addi v1247 v1248
  v1249.toNat
def k0_off30 (d0 : Dev nD) : Fin 3 → Nat :=
  let c5_i32_1138 : BitVec 32 := 5#32
  let c128_i32_84 : BitVec 32 := 128#32
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_4 v5
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let v13 : BitVec 32 := Scalar.addi v11 v12
  let v99 : BitVec 32 := Scalar.muli c128_i32_84 v13
  let c64_i32_85 : BitVec 32 := 64#32
  let v100 : BitVec 32 := Scalar.addi v99 c64_i32_85
  let c0_i32_1147 : BitVec 32 := 0#32
  ![5, v100.toNat, 0]
def k0_dev39 (d0 : Dev nD) : Nat :=
  let c0_i32_1144 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1143 : BitVec 32 := 4#32
  let v1258 : BitVec 32 := Scalar.muli v2 c4_i32_1143
  let v1259 : BitVec 32 := Scalar.addi c0_i32_1144 v1258
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1145 : BitVec 32 := 2#32
  let v1260 : BitVec 32 := Scalar.muli v19 c2_i32_1145
  let v1261 : BitVec 32 := Scalar.addi v1259 v1260
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1146 : BitVec 32 := 1#32
  let v1262 : BitVec 32 := Scalar.muli v8 c1_i32_1146
  let v1263 : BitVec 32 := Scalar.addi v1261 v1262
  v1263.toNat
def k0_off31 (d0 : Dev nD) : Fin 3 → Nat :=
  let c6_i32_1192 : BitVec 32 := 6#32
  let c128_i32_60 : BitVec 32 := 128#32
  let c2_i32_7 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v15 : BitVec 32 := Scalar.muli c2_i32_7 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v74 : BitVec 32 := Scalar.muli c128_i32_60 v16
  let c0_i32_1201 : BitVec 32 := 0#32
  ![6, v74.toNat, 0]
def k0_dev40 (d0 : Dev nD) : Nat :=
  let c0_i32_1198 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1197 : BitVec 32 := 4#32
  let v1308 : BitVec 32 := Scalar.muli v2 c4_i32_1197
  let v1309 : BitVec 32 := Scalar.addi c0_i32_1198 v1308
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1199 : BitVec 32 := 2#32
  let v1310 : BitVec 32 := Scalar.muli v5 c2_i32_1199
  let v1311 : BitVec 32 := Scalar.addi v1309 v1310
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_1200 : BitVec 32 := 1#32
  let v1312 : BitVec 32 := Scalar.muli v18 c1_i32_1200
  let v1313 : BitVec 32 := Scalar.addi v1311 v1312
  v1313.toNat
def k0_off32 (d0 : Dev nD) : Fin 3 → Nat :=
  let c6_i32_1204 : BitVec 32 := 6#32
  let c128_i32_88 : BitVec 32 := 128#32
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_4 v5
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let v13 : BitVec 32 := Scalar.addi v11 v12
  let v103 : BitVec 32 := Scalar.muli c128_i32_88 v13
  let c64_i32_89 : BitVec 32 := 64#32
  let v104 : BitVec 32 := Scalar.addi v103 c64_i32_89
  let c0_i32_1213 : BitVec 32 := 0#32
  ![6, v104.toNat, 0]
def k0_dev41 (d0 : Dev nD) : Nat :=
  let c0_i32_1210 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1209 : BitVec 32 := 4#32
  let v1322 : BitVec 32 := Scalar.muli v2 c4_i32_1209
  let v1323 : BitVec 32 := Scalar.addi c0_i32_1210 v1322
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1211 : BitVec 32 := 2#32
  let v1324 : BitVec 32 := Scalar.muli v19 c2_i32_1211
  let v1325 : BitVec 32 := Scalar.addi v1323 v1324
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1212 : BitVec 32 := 1#32
  let v1326 : BitVec 32 := Scalar.muli v8 c1_i32_1212
  let v1327 : BitVec 32 := Scalar.addi v1325 v1326
  v1327.toNat
def k0_off33 (d0 : Dev nD) : Fin 3 → Nat :=
  let c7_i32_1258 : BitVec 32 := 7#32
  let c128_i32_62 : BitVec 32 := 128#32
  let c2_i32_7 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v15 : BitVec 32 := Scalar.muli c2_i32_7 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let v76 : BitVec 32 := Scalar.muli c128_i32_62 v16
  let c0_i32_1267 : BitVec 32 := 0#32
  ![7, v76.toNat, 0]
def k0_dev42 (d0 : Dev nD) : Nat :=
  let c0_i32_1264 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1263 : BitVec 32 := 4#32
  let v1372 : BitVec 32 := Scalar.muli v2 c4_i32_1263
  let v1373 : BitVec 32 := Scalar.addi c0_i32_1264 v1372
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1265 : BitVec 32 := 2#32
  let v1374 : BitVec 32 := Scalar.muli v5 c2_i32_1265
  let v1375 : BitVec 32 := Scalar.addi v1373 v1374
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_1266 : BitVec 32 := 1#32
  let v1376 : BitVec 32 := Scalar.muli v18 c1_i32_1266
  let v1377 : BitVec 32 := Scalar.addi v1375 v1376
  v1377.toNat
def k0_off34 (d0 : Dev nD) : Fin 3 → Nat :=
  let c7_i32_1270 : BitVec 32 := 7#32
  let c128_i32_92 : BitVec 32 := 128#32
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.muli c2_i32_4 v5
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let v13 : BitVec 32 := Scalar.addi v11 v12
  let v107 : BitVec 32 := Scalar.muli c128_i32_92 v13
  let c64_i32_93 : BitVec 32 := 64#32
  let v108 : BitVec 32 := Scalar.addi v107 c64_i32_93
  let c0_i32_1279 : BitVec 32 := 0#32
  ![7, v108.toNat, 0]
def k0_dev43 (d0 : Dev nD) : Nat :=
  let c0_i32_1276 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1275 : BitVec 32 := 4#32
  let v1386 : BitVec 32 := Scalar.muli v2 c4_i32_1275
  let v1387 : BitVec 32 := Scalar.addi c0_i32_1276 v1386
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1277 : BitVec 32 := 2#32
  let v1388 : BitVec 32 := Scalar.muli v19 c2_i32_1277
  let v1389 : BitVec 32 := Scalar.addi v1387 v1388
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1278 : BitVec 32 := 1#32
  let v1390 : BitVec 32 := Scalar.muli v8 c1_i32_1278
  let v1391 : BitVec 32 := Scalar.addi v1389 v1390
  v1391.toNat
def k0_dev44 (d0 : Dev nD) : Nat :=
  let c0_i32_1652_r0 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_1651_r0 : BitVec 32 := 4#32
  let v1721_r0 : BitVec 32 := Scalar.muli v17 c4_i32_1651_r0
  let v1722_r0 : BitVec 32 := Scalar.addi c0_i32_1652_r0 v1721_r0
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1653_r0 : BitVec 32 := 2#32
  let v1723_r0 : BitVec 32 := Scalar.muli v5 c2_i32_1653_r0
  let v1724_r0 : BitVec 32 := Scalar.addi v1722_r0 v1723_r0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1654_r0 : BitVec 32 := 1#32
  let v1725_r0 : BitVec 32 := Scalar.muli v8 c1_i32_1654_r0
  let v1726_r0 : BitVec 32 := Scalar.addi v1724_r0 v1725_r0
  v1726_r0.toNat
def k0_dev45 (d0 : Dev nD) : Nat :=
  let c0_i32_1657_r0 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1656_r0 : BitVec 32 := 4#32
  let v1727_r0 : BitVec 32 := Scalar.muli v2 c4_i32_1656_r0
  let v1728_r0 : BitVec 32 := Scalar.addi c0_i32_1657_r0 v1727_r0
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1658_r0 : BitVec 32 := 2#32
  let v1729_r0 : BitVec 32 := Scalar.muli v5 c2_i32_1658_r0
  let v1730_r0 : BitVec 32 := Scalar.addi v1728_r0 v1729_r0
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_1659_r0 : BitVec 32 := 1#32
  let v1731_r0 : BitVec 32 := Scalar.muli v18 c1_i32_1659_r0
  let v1732_r0 : BitVec 32 := Scalar.addi v1730_r0 v1731_r0
  v1732_r0.toNat
def k0_dev46 (d0 : Dev nD) : Nat :=
  let c0_i32_1662_r0 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1661_r0 : BitVec 32 := 4#32
  let v1733_r0 : BitVec 32 := Scalar.muli v2 c4_i32_1661_r0
  let v1734_r0 : BitVec 32 := Scalar.addi c0_i32_1662_r0 v1733_r0
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_1663_r0 : BitVec 32 := 2#32
  let v1735_r0 : BitVec 32 := Scalar.muli v19 c2_i32_1663_r0
  let v1736_r0 : BitVec 32 := Scalar.addi v1734_r0 v1735_r0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1664_r0 : BitVec 32 := 1#32
  let v1737_r0 : BitVec 32 := Scalar.muli v8 c1_i32_1664_r0
  let v1738_r0 : BitVec 32 := Scalar.addi v1736_r0 v1737_r0
  v1738_r0.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x1024 : Shape := ⟨2, ![2048, 1024]⟩
abbrev S2048x4096 : Shape := ⟨2, ![2048, 4096]⟩
abbrev S1024x2048 : Shape := ⟨2, ![1024, 2048]⟩
abbrev S1024x4096 : Shape := ⟨2, ![1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S1024x2048, .bf16⟩
  | .hbm, ⟨3, _⟩ => ⟨S1024x4096, .f32⟩
  | .hbm, ⟨4, _⟩ => ⟨S1024x4096, .bf16⟩
  | .hbm, ⟨5, _⟩ => ⟨S1024x4096, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.KernelIdeal.Prog.lean ====
/-
The kernel's body, written once per chunk.

The printed body unrolls its loops over the eight chunks. Here each loop's body is a definition with the chunk
as a parameter, and `body_eq` states that the printed body is the loops' bodies in order.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option synthInstance.maxSize 4096

noncomputable section

namespace Cert.KernelIdealProof

open Cert.KernelIdeal Cert.KernelIdeal.Gen
open Idealize.ShloMosaic Idealize.ShloMosaic.TcCoe Idealize.SL.Sem

variable {F : FTy → Type} [FloatOps F]

/-! ## The buffers -/

/-- The staged block of `x`, of `dy` and of the result; -/
abbrev xM : Memref sig .tc .vmem S1024x1024 .bf16 := Memref.whole cc0_stg0_0
abbrev yM : Memref sig .tc .vmem S1024x4096 .bf16 := Memref.whole cc0_stg1_0
abbrev oM : Memref sig .tc .vmem S512x4096 .f32 := Memref.whole cc0_stg2_0
/-- the gathered result, the partial sums sent across `x`, and the ones received. -/
abbrev gM : Memref sig .tc .vmem S8x512x512 .bf16 := Memref.whole cc0_scratch0
abbrev sM : Memref sig .tc .vmem S8x128x512 .bf16 := Memref.whole cc0_scratch1
abbrev rM : Memref sig .tc .vmem S8x128x512 .bf16 := Memref.whole cc0_scratch2

/-! ## The regions of a chunk -/

/-- Chunk `ch` of a buffer of partial sums; -/
abbrev bOff (ch : Fin 8) : Fin 3 → ℕ := ![ch.val, 0, 0]
/-- the device's own row block of chunk `ch` of the gathered result; -/
abbrev oOff (ch : Fin 8) (d : Dev nD) : Fin 3 → ℕ := ![ch.val, k0_off4 d 1, 0]
/-- the first half of the row block of its `y` partner; -/
abbrev zOff (ch : Fin 8) (d : Dev nD) : Fin 3 → ℕ := ![ch.val, k0_off19 d 1, 0]
/-- the second half of the row block of its `z` partner; -/
abbrev yOff (ch : Fin 8) (d : Dev nD) : Fin 3 → ℕ := ![ch.val, k0_off20 d 1, 0]
/-- chunk `ch`'s columns of a row range of `dy` or of the result. -/
abbrev cOff (ch : Fin 8) : Fin 2 → ℕ := ![0, 512 * ch.val]

theorem bOff_inb : ∀ (ch : Fin 8) (a), bOff ch a + S1x128x512.size a ≤ S8x128x512.size a := by decide +kernel
theorem oOff_inb : ∀ (ch : Fin 8) (d : Dev nD) (a), oOff ch d a + S1x128x512.size a ≤ S8x512x512.size a := by decide +kernel
theorem zOff_inb : ∀ (ch : Fin 8) (d : Dev nD) (a), zOff ch d a + S1x64x512.size a ≤ S8x512x512.size a := by decide +kernel
theorem yOff_inb : ∀ (ch : Fin 8) (d : Dev nD) (a), yOff ch d a + S1x64x512.size a ≤ S8x512x512.size a := by decide +kernel
theorem wOff_inb : ∀ (ch : Fin 8) (a), bOff ch a + S1x512x512.size a ≤ S8x512x512.size a := by decide +kernel
theorem cOff_inb : ∀ (ch : Fin 8) (a), cOff ch a + S512x512.size a ≤ S512x4096.size a := by decide +kernel
theorem cOff_slices : ∀ ch : Fin 8, S1024x4096.Slices (cOff ch) S1024x512 := by decide +kernel
theorem sem_inb : ∀ (p : Fin 5) (ch : Fin 8) (a), (![p.val, ch.val] : Fin 2 → ℕ) a + S1x1.size a ≤ S5x8.size a := by decide +kernel

abbrev bRect (ch : Fin 8) : Rect S8x128x512 := Rect.unit (s := S8x128x512) (bOff ch) S1x128x512.size (bOff_inb ch)
abbrev oRect (ch : Fin 8) (d : Dev nD) : Rect S8x512x512 := Rect.unit (s := S8x512x512) (oOff ch d) S1x128x512.size (oOff_inb ch d)
abbrev zRect (ch : Fin 8) (d : Dev nD) : Rect S8x512x512 := Rect.unit (s := S8x512x512) (zOff ch d) S1x64x512.size (zOff_inb ch d)
abbrev yRect (ch : Fin 8) (d : Dev nD) : Rect S8x512x512 := Rect.unit (s := S8x512x512) (yOff ch d) S1x64x512.size (yOff_inb ch d)
abbrev wRect (ch : Fin 8) : Rect S8x512x512 := Rect.unit (s := S8x512x512) (bOff ch) S1x512x512.size (wOff_inb ch)
abbrev cRect (ch : Fin 8) : Rect S512x4096 := Rect.unit (s := S512x4096) (cOff ch) S512x512.size (cOff_inb ch)

theorem bRect_words : ∀ ch : Fin 8, (bRect ch).WholeWords (EltTy.packing .bf16) := by decide +kernel
theorem bRect_packed : ∀ ch : Fin 8, (bRect ch).PackedRows (EltTy.packing .bf16) := by decide +kernel
theorem oRect_words : ∀ (ch : Fin 8) (d : Dev nD), (oRect ch d).WholeWords (EltTy.packing .bf16) := by decide +kernel
theorem oRect_packed : ∀ (ch : Fin 8) (d : Dev nD), (oRect ch d).PackedRows (EltTy.packing .bf16) := by decide +kernel
theorem zRect_words : ∀ (ch : Fin 8) (d : Dev nD), (zRect ch d).WholeWords (EltTy.packing .bf16) := by decide +kernel
theorem yRect_words : ∀ (ch : Fin 8) (d : Dev nD), (yRect ch d).WholeWords (EltTy.packing .bf16) := by decide +kernel

abbrev sV (ch : Fin 8) : Memref sig .tc .vmem S128x512 .bf16 := (sM.slice (bRect ch) (fun _ => rfl)).squeeze S128x512 squeezes_S1x128x512_S128x512
abbrev rV (ch : Fin 8) : Memref sig .tc .vmem S128x512 .bf16 := (rM.slice (bRect ch) (fun _ => rfl)).squeeze S128x512 squeezes_S1x128x512_S128x512
abbrev oV (ch : Fin 8) (d : Dev nD) : Memref sig .tc .vmem S128x512 .bf16 := (gM.slice (oRect ch d) (fun _ => rfl)).squeeze S128x512 squeezes_S1x128x512_S128x512
abbrev zV (ch : Fin 8) (d : Dev nD) : Memref sig .tc .vmem S64x512 .bf16 := (gM.slice (zRect ch d) (fun _ => rfl)).squeeze S64x512 squeezes_S1x64x512_S64x512
abbrev yV (ch : Fin 8) (d : Dev nD) : Memref sig .tc .vmem S64x512 .bf16 := (gM.slice (yRect ch d) (fun _ => rfl)).squeeze S64x512 squeezes_S1x64x512_S64x512

theorem sV_exact (ch : Fin 8) : (sV ch).view.WordExact := ((Memref.isWhole_whole cc0_scratch1).wordExact_slice rfl _ (bRect_words ch)).reshape _ _
theorem rV_exact (ch : Fin 8) : (rV ch).view.WordExact := ((Memref.isWhole_whole cc0_scratch2).wordExact_slice rfl _ (bRect_words ch)).reshape _ _
theorem oV_exact (ch : Fin 8) (d : Dev nD) : (oV ch d).view.WordExact := ((Memref.isWhole_whole cc0_scratch0).wordExact_slice rfl _ (oRect_words ch d)).reshape _ _
theorem zV_exact (ch : Fin 8) (d : Dev nD) : (zV ch d).view.WordExact := ((Memref.isWhole_whole cc0_scratch0).wordExact_slice rfl _ (zRect_words ch d)).reshape _ _
theorem yV_exact (ch : Fin 8) (d : Dev nD) : (yV ch d).view.WordExact := ((Memref.isWhole_whole cc0_scratch0).wordExact_slice rfl _ (yRect_words ch d)).reshape _ _

/-! ## The semaphores -/

/-- The runtime's barrier semaphore and the kernel's closing one; -/
abbrev barS : Sem sig := (SemArray.scalar (sig.barrier 0 rfl) : Sems sig S_).sem
abbrev endS : Sem sig := (cc0_scoped0 : Sems sig S_).sem
/-- transfer `p` of chunk `ch`: the semaphore its source signals when it has left, and the one it signals where it lands. -/
abbrev sendS (p : Fin 5) (ch : Fin 8) : DmaSem sig :=
  ((cc0_scratch3.slice (Rect.unit (s := S5x8) ![p.val, ch.val] S1x1.size (sem_inb p ch)) : DmaSems sig S1x1).squeeze S_ squeezes_S1x1_S_).sem
abbrev recvS (p : Fin 5) (ch : Fin 8) : DmaSem sig :=
  ((cc0_scratch4.slice (Rect.unit (s := S5x8) ![p.val, ch.val] S1x1.size (sem_inb p ch)) : DmaSems sig S1x1).squeeze S_ squeezes_S1x1_S_).sem

/-! ## The devices addressed -/

abbrev xDev (d : Dev nD) : Dev nD := ⟨k0_dev4 d, k0_dev4_lt d⟩
abbrev zDev (d : Dev nD) : Dev nD := ⟨k0_dev2 d, k0_dev2_lt d⟩
abbrev yDev (d : Dev nD) : Dev nD := ⟨k0_dev3 d, k0_dev3_lt d⟩

/-! ## The values computed -/

/-- A chunk's partial product: 128 columns of `x` against the chunk's columns of `dy`, accumulated from zero in `f32`, rounded; -/
def part (ch : Fin 8) (y : FVec F S1024x4096 .bf16) (x : Vec F S1024x128 .bf16) : FVec F S1x128x512 .bf16 :=
  shapeCast S1x128x512
    (truncf .bf16
      (matmul dot_S1024x128_S1024x512_S128x512_0_0_1_1_n_n none (shapeCast S1024x128 x shapeCasts_S1024x128_S1024x128)
        (extractStridedSlice S1024x512 (cOff ch) y (cOff_slices ch)) (constant S128x512 .f32 0x00000000#32)) bitsLt_bf16_f32)
    shapeCasts_S128x512_S1x128x512

/-- two partial products added; -/
def sumOf (a b : Vec F S1x128x512 .bf16) : FVec F S1x128x512 .bf16 := k0_pay15 a b

/-- a gathered chunk widened. -/
def widen (a : Vec F S1x512x512 .bf16) : FVec F S512x512 .f32 := k0_pay1 a

/-! ## The loops' bodies -/

/-- Programs of the kernel's core. -/
abbrev Pg (F : FTy → Type) [FloatOps F] : Type 1 := Prog (TpuEff nD τ sig (Elt F) Λ₀ .tc) PUnit

/-- Loop 1: the partial product the `x` partner keeps, sent to it. -/
def loop1 (d : Dev nD) (y : FVec F S1024x4096 .bf16) (ch : Fin 8) (k : Pg F) : Pg F :=
  .op (.load xM (Rect.unit (s := S1024x1024) (k0_off1 d) S1024x128.size (k0_off1_inb d)).toLoadRect (View.loadsAt_vmem h_S1024x128)) fun x =>
  .op (.load sM (bRect ch).toLoadRect (View.loadsAt_vmem h_S1x128x512)) fun _ =>
  .op (.store sM (bRect ch) (part ch y x) Finset.univ
    (View.stores_vmem h_S1x128x512 ((Memref.isWhole_whole cc0_scratch1).storeExact_slice rfl _ (bRect_packed ch)) (fun _ => rfl)) (.inl rfl)) fun _ =>
  .op (.enqueueDma (sV ch) (.remote (Dev.tc (xDev d)) (rV ch) (.dma (sendS 0 ch))) (.dma (recvS 0 ch)) (sV_exact ch) (rV_exact ch) ⟨⟨rfl, Or.inl rfl⟩, trivial⟩) fun _ => k

/-- Loop 2: the partial product kept, the `x` partner's added to it, the sum sent to the `z` and the `y` partner. -/
def loop2 (d : Dev nD) (y : FVec F S1024x4096 .bf16) (ch : Fin 8) (k : Pg F) : Pg F :=
  .op (.load xM (Rect.unit (s := S1024x1024) (k0_off2 d) S1024x128.size (k0_off2_inb d)).toLoadRect (View.loadsAt_vmem h_S1024x128)) fun x =>
  .op (.load gM (oRect ch d).toLoadRect (View.loadsAt_vmem h_S1x128x512)) fun _ =>
  .op (.store gM (oRect ch d) (part ch y x) Finset.univ
    (View.stores_vmem h_S1x128x512 ((Memref.isWhole_whole cc0_scratch0).storeExact_slice rfl _ (oRect_packed ch d)) (fun _ => rfl)) (.inl rfl)) fun _ =>
  .op (.waitDma2 (sendS 0 ch) (rV ch) (sV ch) (rV_exact ch) (sV_exact ch)) fun _ =>
  .op (.waitDma2 (recvS 0 ch) (sV ch) (rV ch) (sV_exact ch) (rV_exact ch)) fun _ =>
  .op (.load gM (oRect ch d).toLoadRect (View.loadsAt_vmem h_S1x128x512)) fun a =>
  .op (.load rM (bRect ch).toLoadRect (View.loadsAt_vmem h_S1x128x512)) fun b =>
  .op (.load gM (oRect ch d).toLoadRect (View.loadsAt_vmem h_S1x128x512)) fun _ =>
  .op (.store gM (oRect ch d) (sumOf a b) Finset.univ
    (View.stores_vmem h_S1x128x512 ((Memref.isWhole_whole cc0_scratch0).storeExact_slice rfl _ (oRect_packed ch d)) (fun _ => rfl)) (.inl rfl)) fun _ =>
  .op (.enqueueDma (oV ch d) (.remote (Dev.tc (zDev d)) (oV ch d) (.dma (sendS 1 ch))) (.dma (recvS 1 ch)) (oV_exact ch d) (oV_exact ch d) ⟨⟨rfl, Or.inl rfl⟩, trivial⟩) fun _ =>
  .op (.enqueueDma (oV ch d) (.remote (Dev.tc (yDev d)) (oV ch d) (.dma (sendS 2 ch))) (.dma (recvS 2 ch)) (oV_exact ch d) (oV_exact ch d) ⟨⟨rfl, Or.inl rfl⟩, trivial⟩) fun _ => k

/-- Loop 3: the two exchanges over, half of what each brought sent on along the other axis. -/
def loop3 (d : Dev nD) (ch : Fin 8) (k : Pg F) : Pg F :=
  .op (.waitDma2 (sendS 1 ch) (oV ch d) (oV ch d) (oV_exact ch d) (oV_exact ch d)) fun _ =>
  .op (.waitDma2 (recvS 1 ch) (oV ch d) (oV ch d) (oV_exact ch d) (oV_exact ch d)) fun _ =>
  .op (.waitDma2 (sendS 2 ch) (oV ch d) (oV ch d) (oV_exact ch d) (oV_exact ch d)) fun _ =>
  .op (.waitDma2 (recvS 2 ch) (oV ch d) (oV ch d) (oV_exact ch d) (oV_exact ch d)) fun _ =>
  .op (.enqueueDma (zV ch d) (.remote (Dev.tc (zDev d)) (zV ch d) (.dma (sendS 3 ch))) (.dma (recvS 3 ch)) (zV_exact ch d) (zV_exact ch d) ⟨⟨rfl, Or.inl rfl⟩, trivial⟩) fun _ =>
  .op (.enqueueDma (yV ch d) (.remote (Dev.tc (yDev d)) (yV ch d) (.dma (sendS 4 ch))) (.dma (recvS 4 ch)) (yV_exact ch d) (yV_exact ch d) ⟨⟨rfl, Or.inl rfl⟩, trivial⟩) fun _ => k

/-- Loop 4: the last two exchanges over, the chunk written out. -/
def loop4 (d : Dev nD) (ch : Fin 8) (k : Pg F) : Pg F :=
  .op (.waitDma2 (sendS 3 ch) (zV ch d) (zV ch d) (zV_exact ch d) (zV_exact ch d)) fun _ =>
  .op (.waitDma2 (recvS 3 ch) (zV ch d) (zV ch d) (zV_exact ch d) (zV_exact ch d)) fun _ =>
  .op (.waitDma2 (sendS 4 ch) (yV ch d) (yV ch d) (yV_exact ch d) (yV_exact ch d)) fun _ =>
  .op (.waitDma2 (recvS 4 ch) (yV ch d) (yV ch d) (yV_exact ch d) (yV_exact ch d)) fun _ =>
  .op (.load gM (wRect ch).toLoadRect (View.loadsAt_vmem h_S1x512x512)) fun a =>
  .op (.load oM (cRect ch).toLoadRect (View.loadsAt_vmem h_S512x512)) fun _ =>
  .op (.store oM (cRect ch) (widen a) Finset.univ (View.stores_vmem_bits_univ h_S512x512 rfl) (.inl rfl)) fun _ => k

/-- A loop over the eight chunks. -/
def chunks (b : Fin 8 → Pg F → Pg F) (k : Pg F) : Pg F := b 0 (b 1 (b 2 (b 3 (b 4 (b 5 (b 6 (b 7 k)))))))

/-- The closing handshake: each partner signalled, three signals awaited. -/
def close (d : Dev nD) : Pg F :=
  .op (.semSignal (xDev d, .tc) endS (1#32 : BitVec 32).toInt) fun _ =>
  .op (.semSignal (zDev d, .tc) endS (1#32 : BitVec 32).toInt) fun _ =>
  .op (.semSignal (yDev d, .tc) endS (1#32 : BitVec 32).toInt) fun _ =>
  .op (.semWait endS (3#32 : BitVec 32).toInt) fun _ => .ret ⟨⟩

/-- The opening handshake on the runtime's barrier semaphore. -/
def opening (d : Dev nD) (k : Pg F) : Pg F :=
  .op (.semSignal (xDev d, .tc) barS (1#32 : BitVec 32).toInt) fun _ =>
  .op (.semSignal (zDev d, .tc) barS (1#32 : BitVec 32).toInt) fun _ =>
  .op (.semSignal (yDev d, .tc) barS (1#32 : BitVec 32).toInt) fun _ =>
  .op (.semWait barS (3#32 : BitVec 32).toInt) fun _ => k

/-- The body. -/
def body : Pg F :=
  .op .deviceId fun d =>
  .op (.load yM (Rect.unit (s := S1024x4096) ![0, 0] S1024x4096.size inb_S1024x4096_S1024x4096_0_0).toLoadRect (View.loadsAt_vmem h_S1024x4096)) fun y =>
  opening d (chunks (loop1 d (k0_pay2 y)) (chunks (loop2 d (k0_pay2 y)) (chunks (loop3 d) (chunks (loop4 d) (close d)))))

set_option maxRecDepth 65536 in
set_option maxHeartbeats 4000000 in
/-- The printed body is that. -/
theorem body_eq : cc0_body (F := F) xM (Memref.isWhole_whole _) yM (Memref.isWhole_whole _) oM (Memref.isWhole_whole _) gM (Memref.isWhole_whole _)
    sM (Memref.isWhole_whole _) rM (Memref.isWhole_whole _) cc0_scratch3 cc0_scratch4 cc0_scoped0 = body := rfl

end Cert.KernelIdealProof

end
-- ==== Proof.KernelIdeal.Sched.lean ====
/-
The protocol: the cells the devices talk through, what each landing hands over, what each device owes and in
which order it pays, and the levels that keep the waits apart.

The mesh has the axes `x`, `y`, `z`; device `4x + 2y + z` talks to the three devices that differ from it on one
axis. Every cell is used for one round.

  * The runtime's barrier cell: a unit from each partner. A partner's unit hands over the places in ITS buffers
    that this device will write: the `x` partner's whole receive buffer; of the `z` and the `y` partner's
    gathered result this device's own row block and a half of the block that reaches them through this device.
  * Transfer `p` of chunk `ch`: 0 sends a partial product across `x`; 1 and 2 send the finished row block across
    `z` and `y`, both reading it at once, so each holds half of it; 3 and 4 send on, across `z` and `y`, a half of
    what came across the other axis. Its send cell gives the source back, its receive cell the place written.
  * The closing cell: a unit from each partner, handing over nothing.
-/
module

public import proofs.«01_k».proof.Proof.KernelIdeal.Prog

@[expose] public section

set_option synthInstance.maxSize 4096

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds, and the mesh's, with a duty per partner -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The partners -/

/-- The partner across axis `i`: 0 for `x`, 1 for `z`, 2 for `y`. -/
def pt (i : Fin 3) (c : Dev nD) : Dev nD := match i with | 0 => xDev c | 1 => zDev c | 2 => yDev c

theorem pt_pt : ∀ (i : Fin 3) (c : Dev nD), pt i (pt i c) = c := by decide +kernel

/-- Taking the partner is its own inverse. -/
def ptEquiv (i : Fin 3) : Dev nD ≃ Dev nD := ⟨pt i, pt i, pt_pt i, pt_pt i⟩

/-- The axis transfer `p` goes across. -/
abbrev ax : Fin 5 → Fin 3 := ![0, 1, 2, 1, 2]

/-! ## The cells -/

/-- A transfer's cells: (is it the receive cell, the transfer, the chunk). -/
abbrev XK : Type := Bool × Fin 5 × Fin 8
/-- The kernel's own semaphores: the closing one, the transfers'. -/
abbrev OK : Type := Unit ⊕ XK
/-- All of them: the barrier semaphore before. -/
abbrev CK : Type := Unit ⊕ OK

abbrev xsem (k : XK) : SemLoc sig := .dma (if k.1 then recvS k.2.1 k.2.2 else sendS k.2.1 k.2.2)
abbrev osem : OK → SemLoc sig | .inl _ => .reg endS | .inr k => xsem k
abbrev csem : CK → SemLoc sig | .inl _ => .reg barS | .inr k => osem k

abbrev kcell (ck : Dev nD × CK) : GSem nD τ sig := ((ck.1 : Thread nD τ), csem ck.2)
abbrev barCell (c : Dev nD) : GSem nD τ sig := ((c : Thread nD τ), .reg barS)
abbrev endCell (c : Dev nD) : GSem nD τ sig := ((c : Thread nD τ), .reg endS)
abbrev sendCell (c : Dev nD) (p : Fin 5) (ch : Fin 8) : GSem nD τ sig := ((c : Thread nD τ), .dma (sendS p ch))
abbrev recvCell (c : Dev nD) (p : Fin 5) (ch : Fin 8) : GSem nD τ sig := ((c : Thread nD τ), .dma (recvS p ch))

theorem sendS_val : ∀ (p : Fin 5) (ch : Fin 8), (sendS p ch).val = 3 + 8 * p.val + ch.val := by decide +kernel
theorem recvS_val : ∀ (p : Fin 5) (ch : Fin 8), (recvS p ch).val = 43 + 8 * p.val + ch.val := by decide +kernel

theorem xsem_injective : Function.Injective xsem := by
  rintro ⟨b, p, ch⟩ ⟨b', p', ch'⟩ h
  have hv := congrArg Fin.val (SemLoc.dma.inj h)
  have hp := p.isLt; have hp' := p'.isLt; have hc := ch.isLt; have hc' := ch'.isLt
  cases b <;> cases b' <;> simp only [Bool.false_eq_true, if_true, if_false] at hv <;>
    simp only [sendS_val, recvS_val] at hv <;>
    first
    | (have h1 : p = p' := Fin.ext (by omega)
       have h2 : ch = ch' := Fin.ext (by omega)
       subst h1; subst h2; rfl)
    | (exfalso; omega)

theorem bar_ne_end : (SemLoc.reg barS : SemLoc sig) ≠ .reg endS := by decide +kernel

theorem csem_injective : Function.Injective csem := by
  rintro (⟨⟩ | ⟨⟩ | k) (⟨⟩ | ⟨⟩ | k') h
  · rfl
  · exact absurd h bar_ne_end
  · cases h
  · exact absurd h.symm bar_ne_end
  · rfl
  · cases h
  · cases h
  · cases h
  · rw [xsem_injective h]

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

open Classical in
/-- The cell index a semaphore has, if any. -/
def dec (s : SemLoc sig) : Option CK := if h : ∃ k, csem k = s then some h.choose else none

theorem dec_csem (k : CK) : dec (csem k) = some k := by
  unfold dec
  rw [dif_pos ⟨k, rfl⟩]
  exact congrArg some (csem_injective (Exists.choose_spec (⟨k, rfl⟩ : ∃ k', csem k' = csem k)))

/-! ## The regions -/

/-- The elements of a chunk of a buffer of partial sums, sent and received; -/
abbrev sS (ch : Fin 8) : Finset (cc0_scratch1 : Ref sig .tc).ty.Idx := (sV ch).view.set
abbrev rS (ch : Fin 8) : Finset (cc0_scratch2 : Ref sig .tc).ty.Idx := (rV ch).view.set
/-- of the gathered result, device `d`'s row block of a chunk, and the halves `d` sends on across `z` and `y`; -/
abbrev oS (ch : Fin 8) (d : Dev nD) : Finset (cc0_scratch0 : Ref sig .tc).ty.Idx := (oV ch d).view.set
abbrev zS (ch : Fin 8) (d : Dev nD) : Finset (cc0_scratch0 : Ref sig .tc).ty.Idx := (zV ch d).view.set
abbrev yS (ch : Fin 8) (d : Dev nD) : Finset (cc0_scratch0 : Ref sig .tc).ty.Idx := (yV ch d).view.set
/-- a whole chunk of it. -/
abbrev wS (ch : Fin 8) : Finset (cc0_scratch0 : Ref sig .tc).ty.Idx := (wRect ch).set

/-- Elements of device `c`'s gathered result, of what it sends and of what it receives across `x`. -/
def gAt (c : Dev nD) (q : PosShare TreeShare) (S : Finset (cc0_scratch0 : Ref sig .tc).ty.Idx) (f : (cc0_scratch0 : Ref sig .tc).ty.Contents (Elt F)) : sProp 𝕄 :=
  ((c : Thread nD τ).loc cc0_scratch0) ↦[S]{q} f
def sAt (c : Dev nD) (S : Finset (cc0_scratch1 : Ref sig .tc).ty.Idx) (f : (cc0_scratch1 : Ref sig .tc).ty.Contents (Elt F)) : sProp 𝕄 :=
  ((c : Thread nD τ).loc cc0_scratch1) ↦[S]{fullShare} f
def rAt (c : Dev nD) (S : Finset (cc0_scratch2 : Ref sig .tc).ty.Idx) (f : (cc0_scratch2 : Ref sig .tc).ty.Contents (Elt F)) : sProp 𝕄 :=
  ((c : Thread nD τ).loc cc0_scratch2) ↦[S]{fullShare} f

instance gAt_storable (c : Dev nD) (q) (S) (f) : BI.Storable (upEmb : UEmb _ 𝕄) (gAt (F := F) c q S f) := by unfold gAt; infer_instance
instance sAt_storable (c : Dev nD) (S) (f) : BI.Storable (upEmb : UEmb _ 𝕄) (sAt (F := F) c S f) := by unfold sAt; infer_instance
instance rAt_storable (c : Dev nD) (S) (f) : BI.Storable (upEmb : UEmb _ 𝕄) (rAt (F := F) c S f) := by unfold rAt; infer_instance

/-! ## The contents -/

/-- Device `c`'s staged blocks of `x` and of `dy`; -/
def xstg (c : Dev nD) : (cc0_stg0_0 : Ref sig .tc).ty.Contents (Elt F) :=
  (win0_0.blk (0 : Fin 1)).view.read (Elt F) (m ((c : Thread nD τ).loc main_arg0))
def ystg (c : Dev nD) : (cc0_stg1_0 : Ref sig .tc).ty.Contents (Elt F) :=
  (win0_1.blk (0 : Fin 1)).view.read (Elt F) (m ((c : Thread nD τ).loc main_arg1))

/-- the columns of `x` whose product goes to the `x` partner, and those whose product it keeps; -/
def xa (c : Dev nD) : Vec F S1024x128 .bf16 :=
  (xM.view).readAt (Elt F) (Rect.unit (s := S1024x1024) (k0_off1 c) S1024x128.size (k0_off1_inb c)).toLoadRect (xstg m c)
def xb (c : Dev nD) : Vec F S1024x128 .bf16 :=
  (xM.view).readAt (Elt F) (Rect.unit (s := S1024x1024) (k0_off2 c) S1024x128.size (k0_off2_inb c)).toLoadRect (xstg m c)
/-- `dy` as loaded. -/
def yv (c : Dev nD) : FVec F S1024x4096 .bf16 :=
  k0_pay2 ((yM.view).readAt (Elt F) (Rect.unit (s := S1024x4096) ![0, 0] S1024x4096.size inb_S1024x4096_S1024x4096_0_0).toLoadRect (ystg m c))

/-- Row `r`, column `j` of a row block of a chunk. -/
def bIdx (r : Fin 128) (j : Fin 512) : S1x128x512.Idx := fun a => match a with
  | ⟨0, _⟩ => ⟨0, Nat.one_pos⟩ | ⟨1, _⟩ => r | ⟨2, _⟩ => j

/-- What device `c` sends across `x`, at every chunk; what it receives is what its partner sends; -/
def sFin (c : Dev nD) : (cc0_scratch1 : Ref sig .tc).ty.Contents (Elt F) := fun i =>
  part (i 0 : Fin 8) (yv m c) (xa m c) (bIdx (i 1 : Fin 128) (i 2 : Fin 512))
def rFin (c : Dev nD) : (cc0_scratch2 : Ref sig .tc).ty.Contents (Elt F) := fun i =>
  part (i 0 : Fin 8) (yv m (pt 0 c)) (xa m (pt 0 c)) (bIdx (i 1 : Fin 128) (i 2 : Fin 512))

/-- the row block of a chunk that device `d` finishes; -/
def red (ch : Fin 8) (d : Dev nD) : FVec F S1x128x512 .bf16 :=
  sumOf (part ch (yv m d) (xb m d)) (part ch (yv m (pt 0 d)) (xa m (pt 0 d)))

/-- The device that finishes row block `b` for device `c`. -/
def rowDev (c : Dev nD) (b : ℕ) : Dev nD := ⟨4 * (c.val / 4) + b % 4, by have := c.isLt; have : nD = 8 := rfl; omega⟩

/-- the gathered result, which devices with the same `x` share. -/
def gFin (c : Dev nD) : (cc0_scratch0 : Ref sig .tc).ty.Contents (Elt F) := fun i =>
  red m (i 0 : Fin 8) (rowDev c ((i 1 : Fin 512).val / 128)) (bIdx ⟨(i 1 : Fin 512).val % 128, Nat.mod_lt _ (by decide)⟩ (i 2 : Fin 512))

/-! ## The payloads -/

/-- The place device `c`'s transfer `p` of chunk `ch` lands in, at its partner, at some contents. -/
def land (c : Dev nD) (p : Fin 5) (ch : Fin 8) : sProp 𝕄 := match p with
  | 0 => iprop(∃ f, rAt (F := F) (pt 0 c) (rS ch) f)
  | 1 => iprop(∃ f, gAt (F := F) (pt 1 c) fullShare (oS ch c) f)
  | 2 => iprop(∃ f, gAt (F := F) (pt 2 c) fullShare (oS ch c) f)
  | 3 => iprop(∃ f, gAt (F := F) (pt 1 c) fullShare (zS ch c) f)
  | 4 => iprop(∃ f, gAt (F := F) (pt 2 c) fullShare (yS ch c) f)

/-- What partner `i`'s barrier signal hands device `c`; -/
def barPay (c : Dev nD) (i : Fin 3) : sProp 𝕄 := match i with
  | 0 => bigSep Finset.univ fun ch => land (F := F) c 0 ch
  | 1 => iprop((bigSep Finset.univ fun ch => land (F := F) c 1 ch) ∗ bigSep Finset.univ fun ch => land (F := F) c 3 ch)
  | 2 => iprop((bigSep Finset.univ fun ch => land (F := F) c 2 ch) ∗ bigSep Finset.univ fun ch => land (F := F) c 4 ch)

/-- what transfer `p` gives back to the device `c` it leaves; -/
def sendPay (c : Dev nD) (p : Fin 5) (ch : Fin 8) : sProp 𝕄 := match p with
  | 0 => sAt c (sS ch) (sFin m c)
  | 1 => gAt c fullShare.left (oS ch c) (gFin m c)
  | 2 => gAt c fullShare.right (oS ch c) (gFin m c)
  | 3 => gAt c fullShare (zS ch c) (gFin m c)
  | 4 => gAt c fullShare (yS ch c) (gFin m c)

/-- what it hands the device `c` it lands at. -/
def recvPay (c : Dev nD) (p : Fin 5) (ch : Fin 8) : sProp 𝕄 := match p with
  | 0 => rAt c (rS ch) (rFin m c)
  | 1 => gAt c fullShare (oS ch (pt 1 c)) (gFin m c)
  | 2 => gAt c fullShare (oS ch (pt 2 c)) (gFin m c)
  | 3 => gAt c fullShare (zS ch (pt 1 c)) (gFin m c)
  | 4 => gAt c fullShare (yS ch (pt 2 c)) (gFin m c)

instance land_storable (c : Dev nD) (p) (ch) : BI.Storable (upEmb : UEmb _ 𝕄) (land (F := F) c p ch) := by
  unfold land; split <;> infer_instance
instance barPay_storable (c : Dev nD) (i) : BI.Storable (upEmb : UEmb _ 𝕄) (barPay (F := F) c i) := by
  unfold barPay; split <;> infer_instance
instance sendPay_storable (c : Dev nD) (p) (ch) : BI.Storable (upEmb : UEmb _ 𝕄) (sendPay (F := F) m c p ch) := by
  unfold sendPay; split <;> infer_instance
instance recvPay_storable (c : Dev nD) (p) (ch) : BI.Storable (upEmb : UEmb _ 𝕄) (recvPay (F := F) m c p ch) := by
  unfold recvPay; split <;> infer_instance

/-! ## The schedule -/

/-- The credit of transfer `p`. -/
def N (p : Fin 5) : ℕ := match p with
  | 0 => (rV 0).view.dmaCredit | 1 => (oV 0 0).view.dmaCredit | 2 => (oV 0 0).view.dmaCredit
  | 3 => (zV 0 0).view.dmaCredit | 4 => (zV 0 0).view.dmaCredit

theorem N_pos (p : Fin 5) : 0 < N p := by
  unfold N; split <;> exact View.dmaCredit_pos _ (by decide)

def amountK : Option CK → ℕ | some (.inr (.inr (_, p, _))) => N p | _ => 1

def dutiesK : Option CK → Finset (Fin 3)
  | some (.inl _) => Finset.univ | some (.inr (.inl _)) => Finset.univ | some (.inr (.inr _)) => {0} | none => ∅

def payK (c : Dev nD) (d : Fin 3) : Option CK → sProp 𝕄
  | some (.inl _) => barPay (F := F) c d
  | some (.inr (.inr (false, p, ch))) => sendPay m c p ch
  | some (.inr (.inr (true, p, ch))) => recvPay m c p ch
  | _ => iprop(emp)

instance payK_storable (c : Dev nD) (d) (k) : BI.Storable (upEmb : UEmb _ 𝕄) (payK (F := F) m c d k) := by
  unfold payK; split <;> infer_instance

/-- One round, round 0: the barrier and the closing cell have a duty of one unit per partner; a transfer's cells
    have one duty of its credit. -/
def Rd : Rounds.Schedule (GSem nD τ sig) (Fin 3) 𝕄 where
  duties g r := if r = 0 ∧ g.1.2 = .tc then dutiesK (dec g.2) else ∅
  unitless _ := False
  amount g _ _ := amountK (dec g.2)
  payload g _ d := payK m g.1.1 d (dec g.2)
  amount_pos g _ _ _ := by
    unfold amountK; split
    · exact N_pos _
    · exact Nat.one_pos

instance Rd_payload_storable (g : GSem nD τ sig) (r : ℕ) (d : Fin 3) :
    BI.Storable (upEmb : UEmb _ 𝕄) ((Rd (F := F) m).payload g r d) := by
  show BI.Storable upEmb (payK m g.1.1 d (dec g.2)); infer_instance

theorem duties_k (c : Dev nD) (k : CK) : (Rd (F := F) m).duties (kcell (c, k)) 0 = dutiesK (some k) := by
  dsimp only [Rd]; rw [if_pos ⟨rfl, rfl⟩, dec_csem]
theorem duties_later (g : GSem nD τ sig) : ∀ r, 1 ≤ r → (Rd (F := F) m).duties g r = ∅ :=
  fun r hr => by dsimp only [Rd]; rw [if_neg fun h => by omega]
theorem amount_k (c : Dev nD) (k : CK) (d : Fin 3) : (Rd (F := F) m).amount (kcell (c, k)) 0 d = amountK (some k) := by
  dsimp only [Rd]; rw [dec_csem]
theorem payload_k (c : Dev nD) (k : CK) (d : Fin 3) : (Rd (F := F) m).payload (kcell (c, k)) 0 d = payK m c d (some k) := by
  dsimp only [Rd]; rw [dec_csem]

/-- A partnership cell's round expects three units, a transfer's cell its credit. -/
theorem expect_bar (c : Dev nD) : (Rd (F := F) m).expect (kcell (c, .inl ())) 0 = 3 := by
  unfold Schedule.expect Schedule.amountOf
  rw [duties_k, Finset.sum_congr rfl fun d _ => amount_k m c (.inl ()) d]; rfl
theorem expect_end (c : Dev nD) : (Rd (F := F) m).expect (kcell (c, .inr (.inl ()))) 0 = 3 := by
  unfold Schedule.expect Schedule.amountOf
  rw [duties_k, Finset.sum_congr rfl fun d _ => amount_k m c (.inr (.inl ())) d]; rfl
theorem expect_x (c : Dev nD) (b : Bool) (p : Fin 5) (ch : Fin 8) : (Rd (F := F) m).expect (kcell (c, .inr (.inr (b, p, ch)))) 0 = N p := by
  unfold Schedule.expect Schedule.amountOf
  rw [duties_k, Finset.sum_congr rfl fun d _ => amount_k m c (.inr (.inr (b, p, ch))) d]
  exact Finset.sum_singleton _ _

theorem bigSep_three (Φ : Fin 3 → sProp 𝕄) : bigSep Finset.univ Φ = iprop(Φ 0 ∗ Φ 1 ∗ Φ 2) :=
  bigSep_univ_eq_bigSepL [0, 1, 2] (by decide) (by decide) Φ

/-- What the whole round hands over, at each cell. -/
theorem rest_bar (c : Dev nD) : bigSep ((Rd (F := F) m).duties (kcell (c, .inl ())) 0 \ ∅) (fun d => (Rd (F := F) m).payload (kcell (c, .inl ())) 0 d)
    = iprop(barPay (F := F) c 0 ∗ barPay (F := F) c 1 ∗ barPay (F := F) c 2) := by
  rw [Finset.sdiff_empty, duties_k]
  refine (bigSep_three _).trans ?_
  rw [payload_k, payload_k, payload_k]; rfl
theorem rest_x (c : Dev nD) (k : XK) : bigSep ((Rd (F := F) m).duties (kcell (c, .inr (.inr k))) 0 \ ∅) (fun d => (Rd (F := F) m).payload (kcell (c, .inr (.inr k))) 0 d)
    = payK m c 0 (some (.inr (.inr k))) := by
  rw [Finset.sdiff_empty, duties_k]
  refine (bigSep_singleton (Φ := fun d => (Rd (F := F) m).payload (kcell (c, .inr (.inr k))) 0 d)).trans ?_
  exact payload_k ..

/-! ## What a device owes, in the order it pays -/

/-- A payment: a barrier unit to a partner, a transfer's credit to the partner it goes to, a closing unit. -/
inductive Ob | bar (i : Fin 3) | rcv (p : Fin 5) (ch : Fin 8) | fin (i : Fin 3)

/-- The partner it goes to, the cell there, its amount and its level. -/
def Ob.dst : Ob → Fin 3 | .bar i => i | .rcv p _ => ax p | .fin i => i
def Ob.key : Ob → CK | .bar _ => .inl () | .rcv p ch => .inr (.inr (true, p, ch)) | .fin _ => .inr (.inl ())
def Ob.amt : Ob → ℕ | .bar _ => 1 | .rcv p _ => N p | .fin _ => 1

/-- What device `c` owes when the payments of a list are left. -/
def owedL (c : Dev nD) : List Ob → CellTallies nD τ sig Unit
  | [] => 0
  | o :: l => owedL c l + tallyAt (kcell (pt o.dst c, o.key)) () o.amt

/-- The chunks from `n` on, each in its place. -/
def rem (n : ℕ) (f : Fin 8 → List Ob) : List Ob := ((List.finRange 8).drop n).flatMap f

theorem finRange_drop : ∀ ch : Fin 8, (List.finRange 8).drop ch.val = ch :: (List.finRange 8).drop (ch.val + 1) := by decide
theorem rem_at (ch : Fin 8) (f : Fin 8 → List Ob) : rem ch.val f = f ch ++ rem (ch.val + 1) f := by
  unfold rem; rw [finRange_drop, List.flatMap_cons]
theorem rem_end (f : Fin 8 → List Ob) : rem 8 f = [] := rfl

/-- The payments left before chunk `n` of loops 1, 2 and 3, and before the closing handshake. -/
def obs4 : List Ob := [.fin 0, .fin 1, .fin 2]
def obs3 (n : ℕ) : List Ob := rem n (fun ch => [.rcv 3 ch, .rcv 4 ch]) ++ obs4
def obs2 (n : ℕ) : List Ob := rem n (fun ch => [.rcv 1 ch, .rcv 2 ch]) ++ obs3 0
def obs1 (n : ℕ) : List Ob := rem n (fun ch => [.rcv 0 ch]) ++ obs2 0
def obs0 : List Ob := .bar 0 :: .bar 1 :: .bar 2 :: obs1 0

theorem obs1_at (ch : Fin 8) : obs1 ch.val = .rcv 0 ch :: obs1 (ch.val + 1) := by unfold obs1; rw [rem_at]; rfl
theorem obs2_at (ch : Fin 8) : obs2 ch.val = .rcv 1 ch :: .rcv 2 ch :: obs2 (ch.val + 1) := by unfold obs2; rw [rem_at]; rfl
theorem obs3_at (ch : Fin 8) : obs3 ch.val = .rcv 3 ch :: .rcv 4 ch :: obs3 (ch.val + 1) := by unfold obs3; rw [rem_at]; rfl

/-! ## The levels -/

/-- The barrier at 1, the receive cells by the loop that awaits them at 2, 3 and 4, the closing cell at 5; a send
    cell, like a staging cell, at 0. -/
def lvK : Option CK → ℕ
  | some (.inl _) => 1 | some (.inr (.inl _)) => 5 | some (.inr (.inr (true, p, _))) => (![2, 3, 3, 4, 4] : Fin 5 → ℕ) p | _ => 0

def L (g : GSem nD τ sig) : Finset Unit := if g.1.2 = .tc then {()} else ∅
def lv (g : GSem nD τ sig) (_ : Unit) : ℕ := lvK (dec g.2)

theorem L_of_ne (g : GSem nD τ sig) (h : g.1.2 ≠ .tc) : L g = ∅ := if_neg h
theorem L_tc (c : Dev nD) (sm : SemLoc sig) : L ((c : Thread nD τ), sm) = {()} := if_pos rfl

def Ob.lvl (o : Ob) : ℕ := lvK (some o.key)

theorem owedL_pos {c : Dev nD} {g : GSem nD τ sig} {u : Unit} : ∀ {l : List Ob}, 0 < owedL c l g u → ∃ o ∈ l, g = kcell (pt o.dst c, o.key)
  | [], h => absurd h (Nat.lt_irrefl 0)
  | o :: l, h => by
    unfold owedL at h
    rw [Pi.add_apply, Finsupp.add_apply, tallyAt_apply] at h
    by_cases hg : g = kcell (pt o.dst c, o.key)
    · exact ⟨o, List.mem_cons_self, hg⟩
    · rw [if_neg (fun h' => hg h'.1), Nat.add_zero] at h
      obtain ⟨o', ho', e⟩ := owedL_pos h
      exact ⟨o', List.mem_cons_of_mem _ ho', e⟩

/-- A device may wait at a cell below every payment it has left. -/
theorem mayWait (c : Dev nD) (sm : SemLoc sig) (l : List Ob) (h : ∀ o ∈ l, lvK (dec sm) < o.lvl) :
    (levAts L lv : sProp 𝕄) ⊢ MayWait (c : Thread nD τ) sm () (owedL c l) :=
  MayOwe.of_cut (L := L) (lev := lv) (lvK (dec sm)) (fun p hp => by rw [Finset.mem_singleton.mp hp, L_tc]; exact Finset.mem_singleton_self _)
    (fun g u hg => by obtain ⟨o, -, rfl⟩ := owedL_pos hg; exact Finset.mem_singleton_self _)
    (fun p hp => by rw [Finset.mem_singleton.mp hp]; exact le_refl _)
    (fun g u hg => by
      obtain ⟨o, ho, rfl⟩ := owedL_pos hg
      show _ < lvK (dec (csem o.key))
      rw [dec_csem]; exact h o ho)

theorem rem_forall (n : ℕ) (f : Fin 8 → List Ob) (P : Ob → Prop) (h : ∀ ch, ∀ o ∈ f ch, P o) : ∀ o ∈ rem n f, P o := by
  intro o ho
  obtain ⟨ch, -, hm⟩ := List.mem_flatMap.mp ho
  exact h ch o hm

theorem obs4_lvl : ∀ o ∈ obs4, 4 < o.lvl := by
  intro o ho
  simp only [obs4, List.mem_cons, List.not_mem_nil, or_false] at ho
  rcases ho with rfl | rfl | rfl <;> decide
theorem obs3_lvl (n : ℕ) : ∀ o ∈ obs3 n, 3 < o.lvl := by
  intro o ho
  rcases List.mem_append.mp ho with h | h
  · exact rem_forall n _ (fun o => 3 < o.lvl) (fun ch o hm => by
      simp only [List.mem_cons, List.not_mem_nil, or_false] at hm
      rcases hm with rfl | rfl <;> exact (by decide : 3 < 4)) o h
  · exact lt_trans (by decide) (obs4_lvl o h)
theorem obs2_lvl (n : ℕ) : ∀ o ∈ obs2 n, 2 < o.lvl := by
  intro o ho
  rcases List.mem_append.mp ho with h | h
  · exact rem_forall n _ (fun o => 2 < o.lvl) (fun ch o hm => by
      simp only [List.mem_cons, List.not_mem_nil, or_false] at hm
      rcases hm with rfl | rfl <;> exact (by decide : 2 < 3)) o h
  · exact lt_trans (by decide) (obs3_lvl 0 o h)
theorem obs1_lvl (n : ℕ) : ∀ o ∈ obs1 n, 1 < o.lvl := by
  intro o ho
  rcases List.mem_append.mp ho with h | h
  · exact rem_forall n _ (fun o => 1 < o.lvl) (fun ch o hm => by
      simp only [List.mem_cons, List.not_mem_nil, or_false] at hm
      rcases hm with rfl; exact (by decide : 1 < 2)) o h
  · exact lt_trans (by decide) (obs2_lvl 0 o h)
theorem obs0_lvl : ∀ o ∈ obs0, 0 < o.lvl := by
  intro o ho
  simp only [obs0, List.mem_cons] at ho
  rcases ho with rfl | rfl | rfl | h
  · decide
  · decide
  · decide
  · exact lt_trans (by decide) (obs1_lvl 0 o h)

end Cert.KernelIdealProof

end
-- ==== Proof.KernelIdeal.Steps.lean ====
/-
The steps the body is made of, each proved once: a unit signalled to a partner, a transfer started, a transfer
awaited at both its ends, and a loop over the eight chunks.
-/
module

public import proofs.«01_k».proof.Proof.KernelIdeal.Sched

@[expose] public section

set_option synthInstance.maxSize 4096

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program of device `c`'s core. -/
abbrev wpc (c : Dev nD) (k : Pg F) (Q : PUnit → sProp 𝕄) : sProp 𝕄 :=
  wp frame (wpE (defs₀ (F := F)) 𝒱₀ (c : Thread nD τ) none) Set.univ k Q

/-! ## What every device knows -/

/-- Every cell's invariant, under the name it was allocated at, and that its round 0 is reached. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)

instance records_persistent (K : Dev nD × CK → ℕ) : BI.Persistent (records m K) := by unfold records; infer_instance

/-- That and the cells' levels. -/
def knows (K : Dev nD × CK → ℕ) : sProp 𝕄 := iprop(records m K ∗ levAts L lv)

instance knows_persistent (K : Dev nD × CK → ℕ) : BI.Persistent (knows m K) := by unfold knows; infer_instance

theorem inv_at (K : Dev nD × CK → ℕ) (ck : Dev nD × CK) : knows m K ⊢ cellInv ER (Rd m) (K ck) (kcell ck) := by
  have h : (bigSep Finset.univ fun ck : Dev nD × CK => (cellInv ER (Rd m) (K ck) (kcell ck) : sProp 𝕄)) ⊢ cellInv ER (Rd m) (K ck) (kcell ck) :=
    bigSep_elim (Finset.mem_univ ck)
  unfold knows records
  iintro ⟨⟨H, -⟩, -⟩
  iapply h; iexact H
theorem reached_at (K : Dev nD × CK → ℕ) (ck : Dev nD × CK) : knows m K ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold knows records
  iintro ⟨⟨-, H⟩, -⟩
  iapply h; iexact H
theorem lev_at (K : Dev nD × CK → ℕ) : knows m K ⊢ levAts L lv := by
  unfold knows; iintro ⟨-, H⟩; iexact H

/-- Device `c` owing the payments of a list, whatever it has waited for. -/
def owing (c : Dev nD) (l : List Ob) : sProp 𝕄 := iprop(∃ W, owes (c : Thread nD τ) (owedL c l) W)

/-- Duty `d` of cell `k` of device `c`. -/
abbrev tok (c : Dev nD) (k : CK) (d : Fin 3) : sProp 𝕄 := dutyTok ER (kcell (c, k)) 0 d
/-- Device `c`'s cell `k` before and after its round. -/
abbrev fresh (c : Dev nD) (k : CK) : sProp 𝕄 := atPos ER (kcell (c, k)) 0 ∅ 0
abbrev spent (c : Dev nD) (k : CK) : sProp 𝕄 := atPos ER (kcell (c, k)) (0 + 1) ∅ 0
/-- A transfer's cells. -/
abbrev snd (p : Fin 5) (ch : Fin 8) : CK := .inr (.inr (false, p, ch))
abbrev rcv (p : Fin 5) (ch : Fin 8) : CK := .inr (.inr (true, p, ch))

/-! ## A unit signalled -/

/-- A unit to partner `i`'s barrier cell, its payload handed over. -/
theorem wp_hello (K : Dev nD × CK → ℕ) (c : Dev nD) (i : Fin 3) (t : Dev nD) (ht : t = pt i c) (n : ℕ) (hn : n = 1) (l : List Ob) (k : Pg F) (Q : PUnit → sProp 𝕄) :
    iprop(knows m K ∗ owing (F := F) c (.bar i :: l) ∗ tok (F := F) (pt i c) (.inl ()) i ∗ barPay (F := F) (pt i c) i)
      ⊢ iprop((owing (F := F) c l -∗ wpc c k Q) -∗ wpc c (.op (.semSignal (Dev.tc t) barS n) fun _ => k) Q) := by
  subst ht hn
  unfold owing
  iintro ⟨#HR, ⟨%W, HO⟩, Ht, Hp⟩ Hk
  iapply (Rounds.wp_signal 𝒱₀ ER (Rd m) (c : Thread nD τ) none (dst := (pt i c : Thread nD τ)) (sem := barS) (κ := K (pt i c, .inl ()))
      (d := i) (by show _ ∈ (Rd m).duties (kcell (pt i c, .inl ())) 0; rw [duties_k]; exact Finset.mem_univ _) (amount_k m (pt i c) (.inl ()) i) () (owedL c l) rfl)
    $$ [HO Ht Hp]
  · isplitr; · iapply (inv_at m K (pt i c, .inl ())); iexact HR
    isplitl [HO]; · iexact HO
    isplitl [Ht]; · iexact Ht
    isplitl [Hp]
    · ihave H := (Entails.of_eq (show barPay (pt i c) i = _ from (payload_k m (pt i c) (.inl ()) i).symm)) $$ Hp
      iexact H
    iapply (reached_at m K (pt i c, .inl ())); iexact HR
  iintro HO
  iapply Hk
  iexists W; iexact HO

/-- A unit to partner `i`'s closing cell. -/
theorem wp_bye (K : Dev nD × CK → ℕ) (c : Dev nD) (i : Fin 3) (t : Dev nD) (ht : t = pt i c) (n : ℕ) (hn : n = 1) (l : List Ob) (k : Pg F) (Q : PUnit → sProp 𝕄) :
    iprop(knows m K ∗ owing (F := F) c (.fin i :: l) ∗ tok (F := F) (pt i c) (.inr (.inl ())) i)
      ⊢ iprop((owing (F := F) c l -∗ wpc c k Q) -∗ wpc c (.op (.semSignal (Dev.tc t) endS n) fun _ => k) Q) := by
  subst ht hn
  unfold owing
  iintro ⟨#HR, ⟨%W, HO⟩, Ht⟩ Hk
  iapply (Rounds.wp_signal 𝒱₀ ER (Rd m) (c : Thread nD τ) none (dst := (pt i c : Thread nD τ)) (sem := endS) (κ := K (pt i c, .inr (.inl ())))
      (d := i) (by show _ ∈ (Rd m).duties (kcell (pt i c, .inr (.inl ()))) 0; rw [duties_k]; exact Finset.mem_univ _) (amount_k m (pt i c) (.inr (.inl ())) i) () (owedL c l) rfl)
    $$ [HO Ht]
  · isplitr; · iapply (inv_at m K (pt i c, .inr (.inl ()))); iexact HR
    isplitl [HO]; · iexact HO
    isplitl [Ht]; · iexact Ht
    isplitr
    · ihave H := (Entails.of_eq (show iprop(emp) = _ from (payload_k m (pt i c) (.inr (.inl ())) i).symm)) $$ []
      · iempintro
      iexact H
    iapply (reached_at m K (pt i c, .inr (.inl ()))); iexact HR
  iintro HO
  iapply Hk
  iexists W; iexact HO

/-! ## Three units awaited -/

theorem wp_met (K : Dev nD × CK → ℕ) (c : Dev nD) (n : ℕ) (hn : n = 3) (l : List Ob) (hl : ∀ o ∈ l, 1 < o.lvl) (k : Pg F) (Q : PUnit → sProp 𝕄) :
    iprop(knows m K ∗ owing (F := F) c l ∗ cred (tallyAt (barCell c) () 3) ∗ fresh (F := F) c (.inl ()))
      ⊢ iprop((owing (F := F) c l ∗ spent (F := F) c (.inl ()) ∗ barPay (F := F) c 0 ∗ barPay (F := F) c 1 ∗ barPay (F := F) c 2 -∗ wpc c k Q)
        -∗ wpc c (.op (.semWait barS n) fun _ => k) Q) := by
  subst hn
  unfold owing
  iintro ⟨#HR, ⟨%W, HO⟩, Hc, Hat⟩ Hk
  iapply (Rounds.wp_wait_rest_token 𝒱₀ ER (Rd m) (c : Thread nD τ) none (κ := K (c, .inl ()))
      (wpE_semWait_eq 𝒱₀ (c : Thread nD τ) none Set.univ) (Set.mem_univ _) () (O := owedL c l) (W := W) (R := 0) (m := 0) (T := ∅)
      ((Nat.zero_add 3).trans (expect_bar m c).symm)) $$ [Hc HO Hat]
  · isplitr; · iapply (inv_at m K (c, .inl ())); iexact HR
    isplitl [Hc]; · iexact Hc
    isplitl [HO]; · iexact HO
    isplitr
    · iapply (mayWait c (.reg barS) l (fun o ho => by rw [show dec (.reg barS) = some (.inl ()) from dec_csem (.inl ())]; exact hl o ho))
      iapply (lev_at m K); iexact HR
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

theorem wp_parted (K : Dev nD × CK → ℕ) (c : Dev nD) (n : ℕ) (hn : n = 3) (k : Pg F) (Q : PUnit → sProp 𝕄) :
    iprop(knows m K ∗ owing (F := F) c [] ∗ cred (tallyAt (endCell c) () 3) ∗ fresh (F := F) c (.inr (.inl ())))
      ⊢ iprop((owing (F := F) c [] ∗ spent (F := F) c (.inr (.inl ())) -∗ wpc c k Q)
        -∗ wpc c (.op (.semWait endS n) fun _ => k) Q) := by
  subst hn
  unfold owing
  iintro ⟨#HR, ⟨%W, HO⟩, Hc, Hat⟩ Hk
  iapply (Rounds.wp_wait_rest_token 𝒱₀ ER (Rd m) (c : Thread nD τ) none (κ := K (c, .inr (.inl ())))
      (wpE_semWait_eq 𝒱₀ (c : Thread nD τ) none Set.univ) (Set.mem_univ _) () (O := owedL c []) (W := W) (R := 0) (m := 0) (T := ∅)
      ((Nat.zero_add 3).trans (expect_end m c).symm)) $$ [Hc HO Hat]
  · isplitr; · iapply (inv_at m K (c, .inr (.inl ()))); iexact HR
    isplitl [Hc]; · iexact Hc
    isplitl [HO]; · iexact HO
    isplitr
    · iapply (mayWait c (.reg endS) [] (fun o ho => absurd ho List.not_mem_nil))
      iapply (lev_at m K); iexact HR
    iexact Hat
  iintro ⟨HO, Hat, -, -⟩
  iapply Hk
  isplitl [HO]; · iexists _; iexact HO
  iexact Hat

/-! ## A transfer awaited at both its ends -/

/-- One end of transfer `p` of chunk `ch`: what the landing hands over. -/
theorem wp_end (K : Dev nD × CK → ℕ) (c : Dev nD) (b : Bool) (p : Fin 5) (ch : Fin 8) (sem : DmaSem sig) (hsem : sem = if b then recvS p ch else sendS p ch)
    {s s' : Shape} (src : Memref sig .tc .vmem s' .bf16) (dst : Memref sig .tc .vmem s .bf16) (h1 : src.view.WordExact) (h2 : dst.view.WordExact)
    (hN : dst.view.dmaCredit = N p) (l : List Ob) (hl : ∀ o ∈ l, lvK (some (.inr (.inr (b, p, ch)))) < o.lvl) (k : Pg F) (Q : PUnit → sProp 𝕄) :
    iprop(knows m K ∗ owing (F := F) c l ∗ cred (tallyAt (kcell (c, .inr (.inr (b, p, ch)))) () (N p)) ∗ fresh (F := F) c (.inr (.inr (b, p, ch))))
      ⊢ iprop((owing (F := F) c l ∗ spent (F := F) c (.inr (.inr (b, p, ch))) ∗ payK m c 0 (some (.inr (.inr (b, p, ch)))) -∗ wpc c k Q)
        -∗ wpc c (.op (.waitDma2 sem src dst h1 h2) fun _ => k) Q) := by
  subst hsem
  unfold owing
  rw [← hN]
  iintro ⟨#HR, ⟨%W, HO⟩, Hc, Hat⟩ Hk
  iapply (Rounds.wp_wait_rest_token 𝒱₀ ER (Rd m) (c : Thread nD τ) none (κ := K (c, .inr (.inr (b, p, ch))))
      (wpE_waitDma2_eq 𝒱₀ (c : Thread nD τ) none Set.univ) (Set.mem_univ _) () (O := owedL c l) (W := W) (R := 0) (m := 0) (T := ∅)
      ((Nat.zero_add _).trans (hN.trans (expect_x m c b p ch).symm))) $$ [Hc HO Hat]
  · isplitr; · iapply (inv_at m K (c, .inr (.inr (b, p, ch)))); iexact HR
    isplitl [Hc]; · iexact Hc
    isplitl [HO]; · iexact HO
    isplitr
    · iapply (mayWait c (xsem (b, p, ch)) l (fun o ho => by rw [show dec (xsem (b, p, ch)) = some (.inr (.inr (b, p, ch))) from dec_csem (.inr (.inr (b, p, ch)))]; exact hl o ho))
      iapply (lev_at m K); iexact HR
    iexact Hat
  iintro ⟨HO, Hat, -, Hpay⟩
  ihave Hp := (Entails.of_eq (rest_x m c (b, p, ch))) $$ Hpay
  iapply Hk
  isplitl [HO]; · iexists _; iexact HO
  isplitl [Hat]; · iexact Hat
  iexact Hp

/-- What awaiting a transfer takes besides its own credit on the send cell, and what is left of the cells after. -/
def due (c : Dev nD) (p : Fin 5) (ch : Fin 8) : sProp 𝕄 :=
  iprop(cred (tallyAt (recvCell c p ch) () (N p)) ∗ fresh (F := F) c (snd p ch) ∗ fresh (F := F) c (rcv p ch))
def sent (c : Dev nD) (p : Fin 5) (ch : Fin 8) : sProp 𝕄 := cred (tallyAt (sendCell c p ch) () (N p))
def over (c : Dev nD) (p : Fin 5) (ch : Fin 8) : sProp 𝕄 := iprop(spent (F := F) c (snd p ch) ∗ spent (F := F) c (rcv p ch))

theorem wp_await (K : Dev nD × CK → ℕ) (c : Dev nD) (p : Fin 5) (ch : Fin 8) {s s' : Shape}
    (a b : Memref sig .tc .vmem s .bf16) (a' b' : Memref sig .tc .vmem s' .bf16) (h1 : a.view.WordExact) (h2 : b.view.WordExact) (h1' : a'.view.WordExact) (h2' : b'.view.WordExact)
    (hN : b.view.dmaCredit = N p) (hN' : b'.view.dmaCredit = N p) (l : List Ob) (hl : ∀ o ∈ l, (![2, 3, 3, 4, 4] : Fin 5 → ℕ) p < o.lvl)
    (k : Pg F) (Q : PUnit → sProp 𝕄) :
    iprop(knows m K ∗ owing (F := F) c l ∗ sent (F := F) c p ch ∗ due (F := F) c p ch)
      ⊢ iprop((owing (F := F) c l ∗ over (F := F) c p ch ∗ sendPay m c p ch ∗ recvPay m c p ch -∗ wpc c k Q)
        -∗ wpc c (.op (.waitDma2 (sendS p ch) a b h1 h2) fun _ => .op (.waitDma2 (recvS p ch) a' b' h1' h2') fun _ => k) Q) := by
  unfold due sent over
  iintro ⟨#HR, HO, Hs, Hr, Hfs, Hfr⟩ Hk
  iapply (wp_end m K c false p ch (sendS p ch) rfl a b h1 h2 hN l (fun o ho => lt_of_le_of_lt (Nat.zero_le _) (hl o ho))) $$ [HO Hs Hfs]
  · isplitr; · iexact HR
    isplitl [HO]; · iexact HO
    isplitl [Hs]; · iexact Hs
    iexact Hfs
  iintro ⟨HO, Hfs, Hps⟩
  iapply (wp_end m K c true p ch (recvS p ch) rfl a' b' h1' h2' hN' l hl) $$ [HO Hr Hfr]
  · isplitr; · iexact HR
    isplitl [HO]; · iexact HO
    isplitl [Hr]; · iexact Hr
    iexact Hfr
  iintro ⟨HO, Hfr, Hpr⟩
  iapply Hk
  isplitl [HO]; · iexact HO
  isplitl [Hfs Hfr]
  · isplitl [Hfs]; · iexact Hfs
    iexact Hfr
  isplitl [Hps]
  · ihave H := (Entails.of_eq (show payK m c 0 (some (.inr (.inr (false, p, ch)))) = sendPay m c p ch from rfl)) $$ Hps
    iexact H
  · ihave H := (Entails.of_eq (show payK m c 0 (some (.inr (.inr (true, p, ch)))) = recvPay m c p ch from rfl)) $$ Hpr
    iexact H

/-! ## A transfer started -/

/-- The two duties a transfer of device `c` pays. -/
def fare (c : Dev nD) (p : Fin 5) (ch : Fin 8) : sProp 𝕄 :=
  iprop(tok (F := F) c (snd p ch) 0 ∗ tok (F := F) (pt (ax p) c) (rcv p ch) 0)

theorem wp_start (K : Dev nD × CK → ℕ) (c : Dev nD) (p : Fin 5) (ch : Fin 8) (t : Dev nD) (ht : t = pt (ax p) c) {s : Shape}
    (src dst : Memref sig .tc .vmem s .bf16) (h1 : src.view.WordExact) (h2 : dst.view.WordExact)
    (hsc : dst.view.ref.isScScratch = false) (hT : DmaTarget.Typed .vmem (.dma (recvS p ch)) (.remote (Dev.tc t : Thread nD τ) dst (.dma (sendS p ch)) hsc))
    (hN : dst.view.dmaCredit = N p) (q : PosShare TreeShare)
    (fs : Buf (Elt F) (src.view.loc (c : Thread nD τ))) (fd : Buf (Elt F) (dst.view.loc (pt (ax p) c : Thread nD τ)))
    (hs : (src.view.loc (c : Thread nD τ) ↦[src.view.set]{q} fs) ⊢ sendPay m c p ch)
    (hr : (dst.view.loc (pt (ax p) c : Thread nD τ) ↦[dst.view.set]{fullShare} (dst.view.write (Elt F) fd (src.view.read (Elt F) fs) Finset.univ))
      ⊢ recvPay m (pt (ax p) c) p ch)
    (l : List Ob) (k : Pg F) (Q : PUnit → sProp 𝕄) :
    iprop(knows m K ∗ owing (F := F) c (.rcv p ch :: l) ∗ fare (F := F) c p ch
        ∗ (src.view.loc (c : Thread nD τ) ↦[src.view.set]{q} fs) ∗ (dst.view.loc (pt (ax p) c : Thread nD τ) ↦[dst.view.set]{fullShare} fd))
      ⊢ iprop((owing (F := F) c l ∗ sent (F := F) c p ch -∗ wpc c k Q)
        -∗ wpc c (.op (.enqueueDma src (.remote (Dev.tc t : Thread nD τ) dst (.dma (sendS p ch)) hsc) (.dma (recvS p ch)) h1 h2 hT) fun _ => k) Q) := by
  subst ht
  unfold owing fare sent
  iintro ⟨#HR, ⟨%W, HO⟩, ⟨Hts, Htr⟩, Hsrc, Hdst⟩ Hk
  iapply (Rounds.wp_send_pointsTo 𝒱₀ ER (Rd m) (c : Thread nD τ) none (κ₁ := K (c, snd p ch)) (κ₂ := K (pt (ax p) c, rcv p ch))
    (r₁ := 0) (r₂ := 0) (d₁ := 0) (d₂ := 0) (fd := fd)
    (by show _ ∈ (Rd m).duties (kcell (c, snd p ch)) 0; rw [duties_k]; exact Finset.mem_singleton_self _)
    (by show _ ∈ (Rd m).duties (kcell (pt (ax p) c, rcv p ch)) 0; rw [duties_k]; exact Finset.mem_singleton_self _)
    () () (N p) ((View.amount_dma _ _).trans hN) (amount_k m c (snd p ch) 0) (amount_k m (pt (ax p) c) (rcv p ch) 0) (owedL c l) rfl (W := W)
    (hs.trans (Entails.of_eq (payload_k m c (snd p ch) 0).symm))
    (hr.trans (Entails.of_eq (payload_k m (pt (ax p) c) (rcv p ch) 0).symm))) $$ [HO Hts Htr Hsrc Hdst]
  · isplitr; · iapply (inv_at m K (c, snd p ch)); iexact HR
    isplitr; · iapply (inv_at m K (pt (ax p) c, rcv p ch)); iexact HR
    isplitl [Hsrc]; · iexact Hsrc
    isplitl [Hdst]; · iexact Hdst
    isplitl [HO]; · iexact HO
    isplitl [Hts]; · iexact Hts
    isplitr; · iapply (reached_at m K (c, snd p ch)); iexact HR
    isplitl [Htr]; · iexact Htr
    iapply (reached_at m K (pt (ax p) c, rcv p ch)); iexact HR
  iintro ⟨Hc, HO⟩
  iapply Hk
  isplitl [HO]; · iexists W; iexact HO
  iexact Hc

/-! ## A loop over the chunks -/

theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A body that takes each chunk from `A` to `B`, and a state from one chunk to the next, takes all of them. -/
theorem wp_chunks (R : sProp 𝕄) [BI.Persistent R] (c : Dev nD) (b : Fin 8 → Pg F → Pg F) (A B : Fin 8 → sProp 𝕄) (J : ℕ → sProp 𝕄) (Q : PUnit → sProp 𝕄)
    (h : ∀ (ch : Fin 8) (k : Pg F), iprop(R ∗ A ch ∗ J ch.val) ⊢ iprop((B ch ∗ J (ch.val + 1) -∗ wpc c k Q) -∗ wpc c (b ch k) Q)) (k : Pg F) :
    iprop(R ∗ bigSep Finset.univ A ∗ J 0) ⊢ iprop((bigSep Finset.univ B ∗ J 8 -∗ wpc c k Q) -∗ wpc c (chunks b k) Q) := by
  have h0 : ∀ k, iprop(R ∗ A 0 ∗ J 0) ⊢ iprop((B 0 ∗ J 1 -∗ wpc c k Q) -∗ wpc c (b 0 k) Q) := h 0
  have h1 : ∀ k, iprop(R ∗ A 1 ∗ J 1) ⊢ iprop((B 1 ∗ J 2 -∗ wpc c k Q) -∗ wpc c (b 1 k) Q) := h 1
  have h2 : ∀ k, iprop(R ∗ A 2 ∗ J 2) ⊢ iprop((B 2 ∗ J 3 -∗ wpc c k Q) -∗ wpc c (b 2 k) Q) := h 2
  have h3 : ∀ k, iprop(R ∗ A 3 ∗ J 3) ⊢ iprop((B 3 ∗ J 4 -∗ wpc c k Q) -∗ wpc c (b 3 k) Q) := h 3
  have h4 : ∀ k, iprop(R ∗ A 4 ∗ J 4) ⊢ iprop((B 4 ∗ J 5 -∗ wpc c k Q) -∗ wpc c (b 4 k) Q) := h 4
  have h5 : ∀ k, iprop(R ∗ A 5 ∗ J 5) ⊢ iprop((B 5 ∗ J 6 -∗ wpc c k Q) -∗ wpc c (b 5 k) Q) := h 5
  have h6 : ∀ k, iprop(R ∗ A 6 ∗ J 6) ⊢ iprop((B 6 ∗ J 7 -∗ wpc c k Q) -∗ wpc c (b 6 k) Q) := h 6
  have h7 : ∀ k, iprop(R ∗ A 7 ∗ J 7) ⊢ iprop((B 7 ∗ J 8 -∗ wpc c k Q) -∗ wpc c (b 7 k) Q) := h 7
  rw [bigSep_eight, bigSep_eight]
  unfold chunks
  iintro ⟨#HR, ⟨A0, A1, A2, A3, A4, A5, A6, A7⟩, HJ⟩ Hk
  iapply (h0 _) $$ [A0 HJ]
  · isplitr; · iexact HR
    isplitl [A0]; · iexact A0
    iexact HJ
  iintro ⟨B0, HJ⟩
  iapply (h1 _) $$ [A1 HJ]
  · isplitr; · iexact HR
    isplitl [A1]; · iexact A1
    iexact HJ
  iintro ⟨B1, HJ⟩
  iapply (h2 _) $$ [A2 HJ]
  · isplitr; · iexact HR
    isplitl [A2]; · iexact A2
    iexact HJ
  iintro ⟨B2, HJ⟩
  iapply (h3 _) $$ [A3 HJ]
  · isplitr; · iexact HR
    isplitl [A3]; · iexact A3
    iexact HJ
  iintro ⟨B3, HJ⟩
  iapply (h4 _) $$ [A4 HJ]
  · isplitr; · iexact HR
    isplitl [A4]; · iexact A4
    iexact HJ
  iintro ⟨B4, HJ⟩
  iapply (h5 _) $$ [A5 HJ]
  · isplitr; · iexact HR
    isplitl [A5]; · iexact A5
    iexact HJ
  iintro ⟨B5, HJ⟩
  iapply (h6 _) $$ [A6 HJ]
  · isplitr; · iexact HR
    isplitl [A6]; · iexact A6
    iexact HJ
  iintro ⟨B6, HJ⟩
  iapply (h7 _) $$ [A7 HJ]
  · isplitr; · iexact HR
    isplitl [A7]; · iexact A7
    iexact HJ
  iintro ⟨B7, HJ⟩
  iapply Hk
  isplitr [HJ]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  · iexact HJ

end Cert.KernelIdealProof

end
-- ==== Proof.KernelIdeal.Regions.lean ====
/-
The regions and the contents: how the buffers divide into the regions the transfers move, what a store or a
landing leaves in a region, what a load of one reads, and how the result is written chunk by chunk.
-/
module

public import proofs.«01_k».proof.Proof.KernelIdeal.Sched

@[expose] public section

set_option synthInstance.maxSize 4096

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Membership -/

/-- The first row of device `d`'s row block, and of the halves it sends on across `z` and across `y`. -/
abbrev oRow (d : Dev nD) : ℕ := k0_off4 d 1
abbrev zRow (d : Dev nD) : ℕ := k0_off19 d 1
abbrev yRow (d : Dev nD) : ℕ := k0_off20 d 1

theorem rows : ∀ c : Dev nD,
    oRow c = 256 * (c.val / 2 % 2) + 128 * (c.val % 2)
    ∧ oRow (pt 1 c) = 256 * (c.val / 2 % 2) + 128 * (1 - c.val % 2)
    ∧ oRow (pt 2 c) = 256 * (1 - c.val / 2 % 2) + 128 * (c.val % 2)
    ∧ zRow (pt 1 c) = 256 * (1 - c.val / 2 % 2) + 128 * (1 - c.val % 2)
    ∧ yRow (pt 2 c) = 256 * (1 - c.val / 2 % 2) + 128 * (1 - c.val % 2) + 64
    ∧ zRow c = 256 * (1 - c.val / 2 % 2) + 128 * (c.val % 2)
    ∧ yRow c = 256 * (c.val / 2 % 2) + 128 * (1 - c.val % 2) + 64 := by decide +kernel

theorem rows_x : ∀ c : Dev nD, oRow c < 512 ∧ (rowDev c (oRow c / 128)) = c ∧ oRow c % 128 = 0
    ∧ (pt 1 c).val / 4 = c.val / 4 ∧ (pt 2 c).val / 4 = c.val / 4 := by decide +kernel

theorem mem_three {a b : Fin 3 → ℕ} {i : Fin 3 → ℕ} :
    (∀ k, a k ≤ i k ∧ i k < a k + b k) ↔ (a 0 ≤ i 0 ∧ i 0 < a 0 + b 0) ∧ (a 1 ≤ i 1 ∧ i 1 < a 1 + b 1) ∧ (a 2 ≤ i 2 ∧ i 2 < a 2 + b 2) :=
  ⟨fun h => ⟨h 0, h 1, h 2⟩, fun h k => by
    match k with
    | 0 => exact h.1
    | 1 => exact h.2.1
    | 2 => exact h.2.2⟩

section
variable (ch : Fin 8) (d : Dev nD)

theorem mem_sS (i : (cc0_scratch1 : Ref sig .tc).ty.Idx) : i ∈ sS ch ↔ (i 0 : Fin 8).val = ch.val := by
  rw [show sS ch = (bRect ch).set from (View.set_reshape _ _).trans (View.set_slice_whole _ _)]
  have h1 : (i 1 : Fin 128).val < 128 := (i 1 : Fin 128).isLt
  have h2 : (i 2 : Fin 512).val < 512 := (i 2 : Fin 512).isLt
  refine Rect.mem_set_unit.trans ((mem_three (a := bOff ch) (b := S1x128x512.size) (i := fun k => (i k).val)).trans ⟨fun h => ?_, fun h => ?_⟩)
  · have := h.1
    change ch.val ≤ (i 0 : Fin 8).val ∧ (i 0 : Fin 8).val < ch.val + 1 at this
    omega
  · obtain rfl : (i 0 : Fin 8) = ch := Fin.ext h
    refine ⟨?_, ?_, ?_⟩
    · change (i 0 : Fin 8).val ≤ (i 0 : Fin 8).val ∧ (i 0 : Fin 8).val < (i 0 : Fin 8).val + 1; omega
    · change 0 ≤ (i 1 : Fin 128).val ∧ (i 1 : Fin 128).val < 0 + 128; omega
    · change 0 ≤ (i 2 : Fin 512).val ∧ (i 2 : Fin 512).val < 0 + 512; omega

theorem mem_rS (i : (cc0_scratch2 : Ref sig .tc).ty.Idx) : i ∈ rS ch ↔ (i 0 : Fin 8).val = ch.val := by
  rw [show rS ch = (bRect ch).set from (View.set_reshape _ _).trans (View.set_slice_whole _ _)]
  rw [← show sS ch = (bRect ch).set from (View.set_reshape _ _).trans (View.set_slice_whole _ _)]
  exact mem_sS ch i

/-- Membership in a band of rows of a chunk of the gathered result. -/
theorem mem_band (row n : ℕ) (inb : ∀ a, (![ch.val, row, 0] : Fin 3 → ℕ) a + (![1, n, 512] : Fin 3 → ℕ) a ≤ S8x512x512.size a) (i : S8x512x512.Idx) :
    i ∈ (Rect.unit (s := S8x512x512) ![ch.val, row, 0] ![1, n, 512] inb).set ↔ (i 0 : Fin 8).val = ch.val ∧ row ≤ (i 1 : Fin 512).val ∧ (i 1 : Fin 512).val < row + n := by
  have h2 : (i 2 : Fin 512).val < 512 := (i 2 : Fin 512).isLt
  refine Rect.mem_set_unit.trans ((mem_three (a := ![ch.val, row, 0]) (b := ![1, n, 512]) (i := fun k => (i k).val)).trans ⟨fun h => ⟨?_, ?_⟩, fun h => ?_⟩)
  · have := h.1
    change ch.val ≤ (i 0 : Fin 8).val ∧ (i 0 : Fin 8).val < ch.val + 1 at this
    omega
  · exact h.2.1
  · obtain ⟨h0, h⟩ := h
    obtain rfl : (i 0 : Fin 8) = ch := Fin.ext h0
    refine ⟨?_, h, ?_⟩
    · change (i 0 : Fin 8).val ≤ (i 0 : Fin 8).val ∧ (i 0 : Fin 8).val < (i 0 : Fin 8).val + 1; omega
    · change 0 ≤ (i 2 : Fin 512).val ∧ (i 2 : Fin 512).val < 0 + 512; omega

theorem mem_oS (i : S8x512x512.Idx) : i ∈ oS ch d ↔ (i 0 : Fin 8).val = ch.val ∧ oRow d ≤ (i 1 : Fin 512).val ∧ (i 1 : Fin 512).val < oRow d + 128 := by
  rw [show oS ch d = (oRect ch d).set from (View.set_reshape _ _).trans (View.set_slice_whole _ _)]
  exact mem_band ch (oRow d) 128 (oOff_inb ch d) i
theorem mem_zS (i : S8x512x512.Idx) : i ∈ zS ch d ↔ (i 0 : Fin 8).val = ch.val ∧ zRow d ≤ (i 1 : Fin 512).val ∧ (i 1 : Fin 512).val < zRow d + 64 := by
  rw [show zS ch d = (zRect ch d).set from (View.set_reshape _ _).trans (View.set_slice_whole _ _)]
  exact mem_band ch (zRow d) 64 (zOff_inb ch d) i
theorem mem_yS (i : S8x512x512.Idx) : i ∈ yS ch d ↔ (i 0 : Fin 8).val = ch.val ∧ yRow d ≤ (i 1 : Fin 512).val ∧ (i 1 : Fin 512).val < yRow d + 64 := by
  rw [show yS ch d = (yRect ch d).set from (View.set_reshape _ _).trans (View.set_slice_whole _ _)]
  exact mem_band ch (yRow d) 64 (yOff_inb ch d) i
theorem mem_wS (i : S8x512x512.Idx) : i ∈ wS ch ↔ (i 0 : Fin 8).val = ch.val := by
  have h1 : (i 1 : Fin 512).val < 512 := (i 1 : Fin 512).isLt
  refine (mem_band ch 0 512 (wOff_inb ch) i).trans ⟨fun h => h.1, fun h => ⟨h, by omega⟩⟩

end

/-! ## The buffers divided -/

/-- A buffer is its chunks. -/
theorem pts_chunks {ℓ : Loc nD τ sig} {q : PosShare TreeShare} {f : Buf (Elt F) ℓ} (U : Finset (Idx ℓ)) (K : Fin 8 → Finset (Idx ℓ))
    (hU : ∀ i, i ∈ U) (hK : ∀ i, ∃ ch, i ∈ K ch) (hd : ∀ t t' i, i ∈ K t → i ∈ K t' → t = t') :
    (ℓ ↦[U]{q} f : sProp 𝕄) = bigSep Finset.univ fun ch => ℓ ↦[K ch]{q} f := by
  rw [← pointsTo_biUnion Finset.univ K fun t _ t' _ ht => Finset.disjoint_left.mpr fun i hi hi' => ht (hd t t' i hi hi')]
  congr 1
  exact Finset.ext fun i => ⟨fun _ => Finset.mem_biUnion.mpr ((hK i).imp fun ch h => ⟨Finset.mem_univ _, h⟩), fun _ => hU i⟩

theorem sAt_chunks (c : Dev nD) (f : (cc0_scratch1 : Ref sig .tc).ty.Contents (Elt F)) :
    sAt c Finset.univ f = bigSep Finset.univ fun ch => sAt c (sS ch) f :=
  pts_chunks (ℓ := (c : Thread nD τ).loc cc0_scratch1) Finset.univ sS (fun i => Finset.mem_univ i) (fun i => ⟨(i 0 : Fin 8), (mem_sS _ i).mpr rfl⟩)
    fun t t' i h h' => Fin.ext (((mem_sS t i).mp h).symm.trans ((mem_sS t' i).mp h'))
theorem rAt_chunks (c : Dev nD) (f : (cc0_scratch2 : Ref sig .tc).ty.Contents (Elt F)) :
    rAt c Finset.univ f = bigSep Finset.univ fun ch => rAt c (rS ch) f :=
  pts_chunks (ℓ := (c : Thread nD τ).loc cc0_scratch2) Finset.univ rS (fun i => Finset.mem_univ i) (fun i => ⟨(i 0 : Fin 8), (mem_rS _ i).mpr rfl⟩)
    fun t t' i h h' => Fin.ext (((mem_rS t i).mp h).symm.trans ((mem_rS t' i).mp h'))
theorem gAt_chunks (c : Dev nD) (q : PosShare TreeShare) (f : (cc0_scratch0 : Ref sig .tc).ty.Contents (Elt F)) :
    gAt c q Finset.univ f = bigSep Finset.univ fun ch => gAt c q (wS ch) f :=
  pts_chunks (ℓ := (c : Thread nD τ).loc cc0_scratch0) Finset.univ wS (fun i => Finset.mem_univ i) (fun i => ⟨(i 0 : Fin 8), (mem_wS _ i).mpr rfl⟩)
    fun t t' i h h' => Fin.ext (((mem_wS t i).mp h).symm.trans ((mem_wS t' i).mp h'))

theorem gAt_union (c : Dev nD) (q : PosShare TreeShare) (S T U : Finset (cc0_scratch0 : Ref sig .tc).ty.Idx) (f : (cc0_scratch0 : Ref sig .tc).ty.Contents (Elt F))
    (h : ∀ i, i ∈ S ↔ i ∈ T ∨ i ∈ U) (hd : ∀ i, i ∈ T → i ∈ U → False) : gAt c q S f = iprop(gAt c q T f ∗ gAt c q U f) := by
  rw [show S = T ∪ U from Finset.ext fun i => (h i).trans Finset.mem_union.symm]
  have h : gAt c q (T ∪ U) f ⊣⊢ iprop(gAt c q T f ∗ gAt c q U f) := pointsTo_union (Finset.disjoint_left.mpr fun i h h' => hd i h h')
  exact BI.equiv_iff.mp ⟨h.1, h.2⟩

theorem gAt_sub (c : Dev nD) (q : PosShare TreeShare) (S T : Finset (cc0_scratch0 : Ref sig .tc).ty.Idx) (f : (cc0_scratch0 : Ref sig .tc).ty.Contents (Elt F))
    (h : T ⊆ S) : gAt c q S f = iprop(gAt c q T f ∗ gAt c q (S \ T) f) := by
  have h : gAt c q S f ⊣⊢ iprop(gAt c q T f ∗ gAt c q (S \ T) f) := pointsTo_split_subset h
  exact BI.equiv_iff.mp ⟨h.1, h.2⟩

theorem gAt_halves (c : Dev nD) (S : Finset (cc0_scratch0 : Ref sig .tc).ty.Idx) (f : (cc0_scratch0 : Ref sig .tc).ty.Contents (Elt F)) :
    gAt c fullShare S f = iprop(gAt c fullShare.left S f ∗ gAt c fullShare.right S f) := by
  have h : gAt c fullShare S f ⊣⊢ iprop(gAt c fullShare.left S f ∗ gAt c fullShare.right S f) := pointsTo_share (PosShare.mem_left_op_right _)
  exact BI.equiv_iff.mp ⟨h.1, h.2⟩

theorem zS_sub (ch : Fin 8) (c : Dev nD) : zS ch c ⊆ oS ch (pt 2 c) := fun i hi => by
  have h := (mem_zS ch c i).mp hi
  have := rows c
  exact (mem_oS ch (pt 2 c) i).mpr ⟨h.1, by omega⟩
theorem yS_sub (ch : Fin 8) (c : Dev nD) : yS ch c ⊆ oS ch (pt 1 c) := fun i hi => by
  have h := (mem_yS ch c i).mp hi
  have := rows c
  exact (mem_oS ch (pt 1 c) i).mpr ⟨h.1, by omega⟩

/-- A chunk of the gathered result: the device's own block, its `z` and its `y` partner's, and the two halves of the
    block that comes through them. -/
theorem gAt_parts (c : Dev nD) (q : PosShare TreeShare) (ch : Fin 8) (f : (cc0_scratch0 : Ref sig .tc).ty.Contents (Elt F)) :
    gAt c q (wS ch) f = iprop(gAt c q (oS ch c) f ∗ gAt c q (oS ch (pt 1 c)) f ∗ gAt c q (oS ch (pt 2 c)) f
      ∗ gAt c q (zS ch (pt 1 c)) f ∗ gAt c q (yS ch (pt 2 c)) f) := by
  have hr := rows c
  have hb : ∀ i : S8x512x512.Idx, (i 1 : Fin 512).val < 512 := fun i => (i 1 : Fin 512).isLt
  have e3 := fun i => (Finset.mem_union (s := zS ch (pt 1 c)) (t := yS ch (pt 2 c)) (a := i)).trans (or_congr (mem_zS ch (pt 1 c) i) (mem_yS ch (pt 2 c) i))
  have e2 := fun i => (Finset.mem_union (s := oS ch (pt 2 c)) (t := zS ch (pt 1 c) ∪ yS ch (pt 2 c)) (a := i)).trans (or_congr (mem_oS ch (pt 2 c) i) (e3 i))
  have e1 := fun i => (Finset.mem_union (s := oS ch (pt 1 c)) (t := oS ch (pt 2 c) ∪ (zS ch (pt 1 c) ∪ yS ch (pt 2 c))) (a := i)).trans
    (or_congr (mem_oS ch (pt 1 c) i) (e2 i))
  rw [gAt_union c q (wS ch) (oS ch c) (oS ch (pt 1 c) ∪ (oS ch (pt 2 c) ∪ (zS ch (pt 1 c) ∪ yS ch (pt 2 c)))) f
      (fun i => (mem_wS ch i).trans (Iff.trans ⟨fun h => by have := hb i; omega, fun h => by omega⟩ (or_congr (mem_oS ch c i) (e1 i)).symm))
      (fun i h h' => by
        have h := (mem_oS ch c i).mp h
        have h' := (e1 i).mp h'
        omega),
    gAt_union c q (oS ch (pt 1 c) ∪ (oS ch (pt 2 c) ∪ (zS ch (pt 1 c) ∪ yS ch (pt 2 c)))) _ _ f (fun i => Finset.mem_union)
      (fun i h h' => by
        have h := (mem_oS ch (pt 1 c) i).mp h
        have h' := (e2 i).mp h'
        omega),
    gAt_union c q (oS ch (pt 2 c) ∪ (zS ch (pt 1 c) ∪ yS ch (pt 2 c))) _ _ f (fun i => Finset.mem_union)
      (fun i h h' => by
        have h := (mem_oS ch (pt 2 c) i).mp h
        have h' := (e3 i).mp h'
        omega),
    gAt_union c q (zS ch (pt 1 c) ∪ yS ch (pt 2 c)) _ _ f (fun i => Finset.mem_union)
      (fun i h h' => by
        have h := (mem_zS ch (pt 1 c) i).mp h
        have h' := (mem_yS ch (pt 2 c) i).mp h'
        omega)]

/-! ## Reading and writing a region -/

/-- Contents that a view reads alike agree on its elements. -/
theorem eq_on_of_read {Val : EltTy → Type} {κ : Kind} {sp : Space} {s : Shape} {e : EltTy} (v : View sig κ sp s e) {f g : v.ty.Contents Val}
    (h : v.read Val f = v.read Val g) : ∀ i ∈ v.set, f i = g i := by
  intro i hi
  obtain ⟨x, -, rfl⟩ := Finset.mem_map.mp hi
  have hx := congrFun h x
  rw [View.read_apply, View.read_apply] at hx
  exact cast_inj _ |>.mp hx

theorem bIdx_eta (x : S1x128x512.Idx) : bIdx (x 1 : Fin 128) (x 2 : Fin 512) = x := by
  funext a
  match a with
  | ⟨0, _⟩ => exact Fin.ext (by have : (x 0 : Fin 1).val < 1 := (x 0 : Fin 1).isLt; show 0 = (x 0 : Fin 1).val; omega)
  | ⟨1, _⟩ => rfl
  | ⟨2, _⟩ => rfl

/-- Chunk `ch` of what is sent is the chunk's partial product; of what is received, the `x` partner's; -/
theorem read_sFin (c : Dev nD) (ch : Fin 8) : (sM.access (bRect ch)).read (Elt F) (sFin m c) = part ch (yv m c) (xa m c) := by
  funext x
  show part (((bRect ch).emb x) 0 : Fin 8) (yv m c) (xa m c) (bIdx (((bRect ch).emb x) 1 : Fin 128) (((bRect ch).emb x) 2 : Fin 512)) = _
  have h0 : (((bRect ch).emb x) 0 : Fin 8) = ch := Fin.ext (by
    have : (x 0 : Fin 1).val < 1 := (x 0 : Fin 1).isLt
    show ch.val + 1 * (x 0 : Fin 1).val = ch.val; omega)
  have h1 : (((bRect ch).emb x) 1 : Fin 128) = (x 1 : Fin 128) := Fin.ext (by show 0 + 1 * (x 1 : Fin 128).val = _; omega)
  have h2 : (((bRect ch).emb x) 2 : Fin 512) = (x 2 : Fin 512) := Fin.ext (by show 0 + 1 * (x 2 : Fin 512).val = _; omega)
  rw [h0, h1, h2, bIdx_eta]
theorem rFin_eq (c : Dev nD) : (rFin m c : S8x128x512.Idx → Elt F .bf16) = sFin m (pt 0 c) := rfl
theorem read_rFin (c : Dev nD) (ch : Fin 8) : (rM.access (bRect ch)).read (Elt F) (rFin m c) = part ch (yv m (pt 0 c)) (xa m (pt 0 c)) :=
  read_sFin m (pt 0 c) ch

/-- of the gathered result, a device's row block is what that device computes. -/
theorem read_gFin (c d : Dev nD) (hd : ∀ b, rowDev c b = rowDev d b) (ch : Fin 8) : (gM.access (oRect ch d)).read (Elt F) (gFin m c) = red m ch d := by
  funext x
  have hx := rows_x d
  have hb : (x 1 : Fin 128).val < 128 := (x 1 : Fin 128).isLt
  have h0 : (((oRect ch d).emb x) 0 : Fin 8) = ch := Fin.ext (by
    have : (x 0 : Fin 1).val < 1 := (x 0 : Fin 1).isLt
    show ch.val + 1 * (x 0 : Fin 1).val = ch.val; omega)
  have h1 : (((oRect ch d).emb x) 1 : Fin 512).val = oRow d + (x 1 : Fin 128).val := by show oRow d + 1 * (x 1 : Fin 128).val = _; omega
  have h2 : (((oRect ch d).emb x) 2 : Fin 512) = (x 2 : Fin 512) := Fin.ext (by show 0 + 1 * (x 2 : Fin 512).val = _; omega)
  show red m (((oRect ch d).emb x) 0 : Fin 8) (rowDev c ((((oRect ch d).emb x) 1 : Fin 512).val / 128))
    (bIdx ⟨(((oRect ch d).emb x) 1 : Fin 512).val % 128, Nat.mod_lt _ (by decide)⟩ (((oRect ch d).emb x) 2 : Fin 512)) = _
  have e1 : (((oRect ch d).emb x) 1 : Fin 512).val / 128 = oRow d / 128 := by rw [h1]; omega
  have e2 : (⟨(((oRect ch d).emb x) 1 : Fin 512).val % 128, Nat.mod_lt _ (by decide)⟩ : Fin 128) = (x 1 : Fin 128) := Fin.ext (by
    show (((oRect ch d).emb x) 1 : Fin 512).val % 128 = (x 1 : Fin 128).val
    rw [h1]; omega)
  rw [h0, h2, e1, e2, hd, hx.2.1, bIdx_eta]

theorem gFin_pt (c : Dev nD) (i : Fin 3) (hi : i = 1 ∨ i = 2) : gFin m (pt i c) = gFin m c := by
  have h : ∀ b, rowDev (pt i c) b = rowDev c b := fun b => Fin.ext (by
    have := rows_x c
    show 4 * ((pt i c).val / 4) + b % 4 = 4 * (c.val / 4) + b % 4
    rcases hi with rfl | rfl <;> omega)
  funext j
  unfold gFin
  rw [h]

/-! ## The result, written chunk by chunk -/

/-- Row `r`, column `j` of a chunk of the result. -/
def wIdx (r : Fin 512) (j : Fin 512) : S512x512.Idx := fun a => match a with
  | ⟨0, _⟩ => r | ⟨1, _⟩ => j

/-- Device `c`'s result: the gathered chunks widened, side by side. -/
def outF (c : Dev nD) : (cc0_stg2_0 : Ref sig .tc).ty.Contents (Elt F) := fun i =>
  widen (gM.view.readAt (Elt F) (wRect ⟨(i 1 : Fin 4096).val / 512, by have : (i 1 : Fin 4096).val < 4096 := (i 1 : Fin 4096).isLt; omega⟩).toLoadRect (gFin m c))
    (wIdx (i 0 : Fin 512) ⟨(i 1 : Fin 4096).val % 512, Nat.mod_lt _ (by decide)⟩)

/-- The result's contents when the chunks before `n` are written. -/
def outUpTo (c : Dev nD) (n : ℕ) (f : (cc0_stg2_0 : Ref sig .tc).ty.Contents (Elt F)) : Prop :=
  ∀ i : S512x4096.Idx, (i 1 : Fin 4096).val < 512 * n → f i = outF m c i

theorem read_outF (c : Dev nD) (ch : Fin 8) :
    (oM.access (cRect ch)).read (Elt F) (outF m c) = widen (gM.view.readAt (Elt F) (wRect ch).toLoadRect (gFin m c)) := by
  funext x
  have hb : (x 1 : Fin 512).val < 512 := (x 1 : Fin 512).isLt
  have h0 : (((cRect ch).emb x) 0 : Fin 512) = (x 0 : Fin 512) := Fin.ext (by show 0 + 1 * (x 0 : Fin 512).val = _; omega)
  have h1 : (((cRect ch).emb x) 1 : Fin 4096).val = 512 * ch.val + (x 1 : Fin 512).val := by show 512 * ch.val + 1 * (x 1 : Fin 512).val = _; omega
  show outF m c ((cRect ch).emb x) = _
  unfold outF
  have e1 : (⟨(((cRect ch).emb x) 1 : Fin 4096).val / 512, by have : (((cRect ch).emb x) 1 : Fin 4096).val < 4096 := (((cRect ch).emb x) 1 : Fin 4096).isLt; omega⟩ : Fin 8) = ch := Fin.ext (by
    show (((cRect ch).emb x) 1 : Fin 4096).val / 512 = ch.val
    rw [h1]; omega)
  have e2 : wIdx (((cRect ch).emb x) 0 : Fin 512) ⟨(((cRect ch).emb x) 1 : Fin 4096).val % 512, Nat.mod_lt _ (by decide)⟩ = x := by
    funext a
    match a with
    | ⟨0, _⟩ => exact h0
    | ⟨1, _⟩ => exact Fin.ext (by
        show (((cRect ch).emb x) 1 : Fin 4096).val % 512 = (x 1 : Fin 512).val
        rw [h1]; omega)
  rw [e1, e2]

theorem outUpTo_zero (c : Dev nD) (f) : outUpTo m c 0 f := fun i h => absurd h (by omega)

theorem outUpTo_succ (c : Dev nD) (ch : Fin 8) (f) (h : outUpTo m c ch.val f) :
    outUpTo m c (ch.val + 1) ((oM.access (cRect ch)).write (Elt F) f (widen (gM.view.readAt (Elt F) (wRect ch).toLoadRect (gFin m c))) Finset.univ) := by
  intro i hi
  by_cases hm : i ∈ (oM.access (cRect ch)).set
  · exact eq_on_of_read (oM.access (cRect ch)) (by rw [View.read_write_univ, read_outF]) i hm
  · rw [View.write_of_not_mem]
    · refine h i ?_
      by_contra hlt
      refine hm ?_
      rw [show (oM.access (cRect ch)).set = (cRect ch).set from View.set_slice_whole _ _]
      refine Rect.mem_set_unit.mpr fun a => ?_
      match a with
      | ⟨0, _⟩ => exact ⟨Nat.zero_le _, by have : (i 0 : Fin 512).val < 512 := (i 0 : Fin 512).isLt; show (i 0 : Fin 512).val < 0 + 512; omega⟩
      | ⟨1, _⟩ => exact ⟨by show 512 * ch.val ≤ (i 1 : Fin 4096).val; omega, by show (i 1 : Fin 4096).val < 512 * ch.val + 512; omega⟩
    · rw [View.setOn_univ]; exact hm

theorem outUpTo_eight (c : Dev nD) (f) (h : outUpTo m c 8 f) : f = outF m c :=
  funext fun i => h i (by have : (i 1 : Fin 4096).val < 4096 := (i 1 : Fin 4096).isLt; omega)

end Cert.KernelIdealProof

end
-- ==== Proof.KernelIdeal.Loops.lean ====
/-
The four loops' bodies, each proved once at a symbolic chunk of a symbolic device.
-/
module

public import proofs.«01_k».proof.Proof.KernelIdeal.Steps
public import proofs.«01_k».proof.Proof.KernelIdeal.Regions

@[expose] public section

set_option synthInstance.maxSize 4096

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a transfer carries -/

/-- A landing leaves in its place what the contents `g` have there, if `g` reads there as the source reads. -/
theorem landed {s : Shape} {e : EltTy} (src dst : Memref sig .tc .vmem s e) (t : Dev nD) (fs : src.view.ty.Contents (Elt F)) (fd g : dst.view.ty.Contents (Elt F))
    (h : dst.view.read (Elt F) g = src.view.read (Elt F) fs) :
    (dst.view.loc (t : Thread nD τ) ↦[dst.view.set]{fullShare} (dst.view.write (Elt F) fd (src.view.read (Elt F) fs) Finset.univ) : sProp 𝕄)
      = (dst.view.loc (t : Thread nD τ) ↦[dst.view.set]{fullShare} g) :=
  pointsTo_congr (eq_on_of_read dst.view (by rw [View.read_write_univ, h]))

theorem recv_0 (c : Dev nD) (ch : Fin 8) : rAt (pt 0 c) (rS ch) (sFin m c) = recvPay m (pt 0 c) 0 ch := by
  show _ = rAt (pt 0 c) (rS ch) (sFin m (pt 0 (pt 0 c))); rw [pt_pt]
theorem recv_1 (c : Dev nD) (ch : Fin 8) : gAt (pt 1 c) fullShare (oS ch c) (gFin m c) = recvPay m (pt 1 c) 1 ch := by
  show _ = gAt (pt 1 c) fullShare (oS ch (pt 1 (pt 1 c))) (gFin m (pt 1 c)); rw [pt_pt, gFin_pt m c 1 (.inl rfl)]
theorem recv_2 (c : Dev nD) (ch : Fin 8) : gAt (pt 2 c) fullShare (oS ch c) (gFin m c) = recvPay m (pt 2 c) 2 ch := by
  show _ = gAt (pt 2 c) fullShare (oS ch (pt 2 (pt 2 c))) (gFin m (pt 2 c)); rw [pt_pt, gFin_pt m c 2 (.inr rfl)]
theorem recv_3 (c : Dev nD) (ch : Fin 8) : gAt (pt 1 c) fullShare (zS ch c) (gFin m c) = recvPay m (pt 1 c) 3 ch := by
  show _ = gAt (pt 1 c) fullShare (zS ch (pt 1 (pt 1 c))) (gFin m (pt 1 c)); rw [pt_pt, gFin_pt m c 1 (.inl rfl)]
theorem recv_4 (c : Dev nD) (ch : Fin 8) : gAt (pt 2 c) fullShare (yS ch c) (gFin m c) = recvPay m (pt 2 c) 4 ch := by
  show _ = gAt (pt 2 c) fullShare (yS ch (pt 2 (pt 2 c))) (gFin m (pt 2 c)); rw [pt_pt, gFin_pt m c 2 (.inr rfl)]

theorem sub_s (ch : Fin 8) : (sM.access (bRect ch)).set ⊆ sS ch := (View.set_reshape _ _).ge
theorem sub_r (ch : Fin 8) : (rM.access (bRect ch)).set ⊆ rS ch := (View.set_reshape _ _).ge
theorem sub_o (ch : Fin 8) (d : Dev nD) : (gM.access (oRect ch d)).set ⊆ oS ch d := (View.set_reshape _ _).ge
theorem sub_w (ch : Fin 8) : (gM.access (wRect ch)).set ⊆ wS ch := (View.set_slice_whole _ _).le
theorem sup_s (ch : Fin 8) : sS ch ⊆ (sM.access (bRect ch)).set := (View.set_reshape _ _).le
theorem sup_o (ch : Fin 8) (d : Dev nD) : oS ch d ⊆ (gM.access (oRect ch d)).set := (View.set_reshape _ _).le

/-- What is stored in a region is what the final contents have there. -/
theorem stored_s (c : Dev nD) (ch : Fin 8) (f : (cc0_scratch1 : Ref sig .tc).ty.Contents (Elt F)) :
    ((sM.access (bRect ch)).loc (c : Thread nD τ) ↦[sS ch]{fullShare} ((sM.access (bRect ch)).write (Elt F) f (part ch (yv m c) (xa m c)) Finset.univ) : sProp 𝕄) = sAt c (sS ch) (sFin m c) :=
  pointsTo_congr fun i hi => eq_on_of_read (sM.access (bRect ch)) (by rw [View.read_write_univ, read_sFin]) i (sup_s ch hi)
theorem stored_g (c : Dev nD) (ch : Fin 8) (f : (cc0_scratch0 : Ref sig .tc).ty.Contents (Elt F)) :
    ((gM.access (oRect ch c)).loc (c : Thread nD τ) ↦[oS ch c]{fullShare} ((gM.access (oRect ch c)).write (Elt F) f
      (sumOf (part ch (yv m c) (xb m c)) (part ch (yv m (pt 0 c)) (xa m (pt 0 c)))) Finset.univ) : sProp 𝕄) = gAt c fullShare (oS ch c) (gFin m c) :=
  pointsTo_congr fun i hi => eq_on_of_read (gM.access (oRect ch c)) (by rw [View.read_write_univ, read_gFin m c c (fun _ => rfl)]; rfl) i (sup_o ch c hi)

theorem load_xa (c : Dev nD) : xM.view.readAt (Elt F) (Rect.unit (s := S1024x1024) (k0_off1 c) S1024x128.size (k0_off1_inb c)).toLoadRect (xstg m c) = xa m c := rfl
theorem load_xb (c : Dev nD) : xM.view.readAt (Elt F) (Rect.unit (s := S1024x1024) (k0_off2 c) S1024x128.size (k0_off2_inb c)).toLoadRect (xstg m c) = xb m c := rfl

/-- The staged block of `x`. -/
def xIn (c : Dev nD) : sProp 𝕄 := ((c : Thread nD τ).loc cc0_stg0_0) ↦[Finset.univ]{fullShare} (xstg m c)

/-! ## Loop 1 -/

def A1 (c : Dev nD) (ch : Fin 8) : sProp 𝕄 := iprop((∃ f, sAt (F := F) c (sS ch) f) ∗ land (F := F) c 0 ch ∗ fare (F := F) c 0 ch)
def J1 (c : Dev nD) (n : ℕ) : sProp 𝕄 := iprop(owing (F := F) c (obs1 n) ∗ xIn m c)

theorem wp_loop1 (K : Dev nD × CK → ℕ) (c : Dev nD) (Q : PUnit → sProp 𝕄) (ch : Fin 8) (k : Pg F) :
    iprop(knows m K ∗ A1 (F := F) c ch ∗ J1 m c ch.val)
      ⊢ iprop((sent (F := F) c 0 ch ∗ J1 m c (ch.val + 1) -∗ wpc c k Q) -∗ wpc c (loop1 c (yv m c) ch k) Q) := by
  unfold A1 J1 xIn loop1 land
  rw [obs1_at]
  iintro ⟨#HR, ⟨⟨%f, Hs⟩, ⟨%fr, Hr⟩, Hf⟩, HO, Hx⟩ Hk
  iapply (wp_load 𝒱₀ (c : Thread nD τ) none Set.univ (m := xM) (Finset.subset_univ _)) $$ Hx; iintro Hx
  rw [load_xa]
  unfold sAt
  iapply (wp_load_rect 𝒱₀ (c : Thread nD τ) none Set.univ (m := sM) (r := bRect ch) (sub_s ch)) $$ Hs; iintro Hs
  iapply (wp_store 𝒱₀ (c : Thread nD τ) none Set.univ (m := sM) (r := bRect ch) (Mk := Finset.univ) ((View.setOn_univ _).le.trans (sub_s ch))) $$ Hs; iintro Hs
  ihave Hs := (Entails.of_eq (stored_s m c ch f)) $$ Hs
  iapply (wp_start m K c 0 ch (xDev c) rfl (sV ch) (rV ch) (sV_exact ch) (rV_exact ch) rfl ⟨⟨rfl, Or.inl rfl⟩, trivial⟩ rfl fullShare (sFin m c) fr
    (Entails.of_eq rfl) ((Entails.of_eq (landed (sV ch) (rV ch) (pt 0 c) (sFin m c) fr (sFin m c) rfl)).trans (Entails.of_eq (recv_0 m c ch))) (obs1 (ch.val + 1)) k Q) $$ [HO Hf Hs Hr]
  · isplitr; · iexact HR
    isplitl [HO]; · iexact HO
    isplitl [Hf]; · iexact Hf
    unfold sAt rAt
    isplitl [Hs]; · iexact Hs
    iexact Hr
  iintro ⟨HO, Hsent⟩
  iapply Hk
  isplitl [Hsent]; · iexact Hsent
  isplitl [HO]; · iexact HO
  iexact Hx

/-! ## Loop 2 -/

def A2 (c : Dev nD) (ch : Fin 8) : sProp 𝕄 :=
  iprop((∃ f, gAt (F := F) c fullShare (oS ch c) f) ∗ sent (F := F) c 0 ch ∗ due (F := F) c 0 ch
    ∗ land (F := F) c 1 ch ∗ land (F := F) c 2 ch ∗ fare (F := F) c 1 ch ∗ fare (F := F) c 2 ch)
def B2 (c : Dev nD) (ch : Fin 8) : sProp 𝕄 :=
  iprop(sAt c (sS ch) (sFin m c) ∗ rAt c (rS ch) (rFin m c) ∗ over (F := F) c 0 ch ∗ sent (F := F) c 1 ch ∗ sent (F := F) c 2 ch)
def J2 (c : Dev nD) (n : ℕ) : sProp 𝕄 := iprop(owing (F := F) c (obs2 n) ∗ xIn m c)

theorem wp_loop2 (K : Dev nD × CK → ℕ) (c : Dev nD) (Q : PUnit → sProp 𝕄) (ch : Fin 8) (k : Pg F) :
    iprop(knows m K ∗ A2 (F := F) c ch ∗ J2 m c ch.val)
      ⊢ iprop((B2 m c ch ∗ J2 m c (ch.val + 1) -∗ wpc c k Q) -∗ wpc c (loop2 c (yv m c) ch k) Q) := by
  unfold A2 B2 J2 xIn loop2 land
  iintro ⟨#HR, ⟨⟨%f, Hg⟩, Hsent, Hdue, ⟨%fz, Hz⟩, ⟨%fy, Hy⟩, Hfz, Hfy⟩, HO, Hx⟩ Hk
  iapply (wp_load 𝒱₀ (c : Thread nD τ) none Set.univ (m := xM) (Finset.subset_univ _)) $$ Hx; iintro Hx
  rw [load_xb]
  ihave Hg := (Entails.of_eq (show (gAt c fullShare (oS ch c) f : sProp 𝕄) = ((gM.access (oRect ch c)).loc (c : Thread nD τ) ↦[oS ch c]{fullShare} f) from rfl)) $$ Hg
  iapply (wp_load_rect 𝒱₀ (c : Thread nD τ) none Set.univ (m := gM) (r := oRect ch c) (sub_o ch c)) $$ Hg; iintro Hg
  iapply (wp_store 𝒱₀ (c : Thread nD τ) none Set.univ (m := gM) (r := oRect ch c) (Mk := Finset.univ) ((View.setOn_univ _).le.trans (sub_o ch c))) $$ Hg; iintro Hg
  iapply (wp_await m K c 0 ch (rV ch) (sV ch) (sV ch) (rV ch) (rV_exact ch) (sV_exact ch) (sV_exact ch) (rV_exact ch) rfl rfl (obs2 ch.val) (obs2_lvl _)) $$ [HO Hsent Hdue]
  · isplitr; · iexact HR
    isplitl [HO]; · iexact HO
    isplitl [Hsent]; · iexact Hsent
    iexact Hdue
  iintro ⟨HO, Hover, Hs, Hr⟩
  unfold sendPay recvPay
  iapply (wp_load_rect 𝒱₀ (c : Thread nD τ) none Set.univ (m := gM) (r := oRect ch c) (sub_o ch c)) $$ Hg; iintro Hg
  ihave Hr := (Entails.of_eq (show (rAt c (rS ch) (rFin m c) : sProp 𝕄) = ((rM.access (bRect ch)).loc (c : Thread nD τ) ↦[rS ch]{fullShare} (rFin m c)) from rfl)) $$ Hr
  iapply (wp_load_rect 𝒱₀ (c : Thread nD τ) none Set.univ (m := rM) (r := bRect ch) (sub_r ch)) $$ Hr; iintro Hr
  iapply (wp_load_rect 𝒱₀ (c : Thread nD τ) none Set.univ (m := gM) (r := oRect ch c) (sub_o ch c)) $$ Hg; iintro Hg
  iapply (wp_store 𝒱₀ (c : Thread nD τ) none Set.univ (m := gM) (r := oRect ch c) (Mk := Finset.univ) ((View.setOn_univ _).le.trans (sub_o ch c))) $$ Hg; iintro Hg
  rw [View.read_write_univ, read_rFin]
  ihave Hg := (Entails.of_eq (stored_g m c ch _)) $$ Hg
  ihave Hg := (Entails.of_eq (gAt_halves c (oS ch c) (gFin m c))) $$ Hg
  icases Hg with ⟨Hgl, Hgr⟩
  rw [obs2_at]
  iapply (wp_start m K c 1 ch (zDev c) rfl (oV ch c) (oV ch c) (oV_exact ch c) (oV_exact ch c) rfl ⟨⟨rfl, Or.inl rfl⟩, trivial⟩ rfl fullShare.left (gFin m c) fz
    (Entails.of_eq rfl) ((Entails.of_eq (landed (oV ch c) (oV ch c) (pt 1 c) (gFin m c) fz (gFin m c) rfl)).trans (Entails.of_eq (recv_1 m c ch))) (.rcv 2 ch :: obs2 (ch.val + 1))) $$ [HO Hfz Hgl Hz]
  · isplitr; · iexact HR
    isplitl [HO]; · iexact HO
    isplitl [Hfz]; · iexact Hfz
    unfold gAt
    isplitl [Hgl]; · iexact Hgl
    iexact Hz
  iintro ⟨HO, Hsz⟩
  iapply (wp_start m K c 2 ch (yDev c) rfl (oV ch c) (oV ch c) (oV_exact ch c) (oV_exact ch c) rfl ⟨⟨rfl, Or.inl rfl⟩, trivial⟩ rfl fullShare.right (gFin m c) fy
    (Entails.of_eq rfl) ((Entails.of_eq (landed (oV ch c) (oV ch c) (pt 2 c) (gFin m c) fy (gFin m c) rfl)).trans (Entails.of_eq (recv_2 m c ch))) (obs2 (ch.val + 1))) $$ [HO Hfy Hgr Hy]
  · isplitr; · iexact HR
    isplitl [HO]; · iexact HO
    isplitl [Hfy]; · iexact Hfy
    unfold gAt
    isplitl [Hgr]; · iexact Hgr
    iexact Hy
  iintro ⟨HO, Hsy⟩
  iapply Hk
  isplitr [HO Hx]
  · isplitl [Hs]; · iexact Hs
    isplitl [Hr]; · unfold rAt; iexact Hr
    isplitl [Hover]; · iexact Hover
    isplitl [Hsz]; · iexact Hsz
    iexact Hsy
  isplitl [HO]; · iexact HO
  iexact Hx

/-! ## Loop 3 -/

/-- The three regions of a chunk a device holds between its third and its fourth loop. -/
def kept (c : Dev nD) (ch : Fin 8) : sProp 𝕄 :=
  iprop(gAt c fullShare (oS ch c) (gFin m c) ∗ gAt c fullShare (oS ch (pt 2 c) \ zS ch c) (gFin m c) ∗ gAt c fullShare (oS ch (pt 1 c) \ yS ch c) (gFin m c))
def A3 (c : Dev nD) (ch : Fin 8) : sProp 𝕄 :=
  iprop(sent (F := F) c 1 ch ∗ sent (F := F) c 2 ch ∗ due (F := F) c 1 ch ∗ due (F := F) c 2 ch
    ∗ land (F := F) c 3 ch ∗ land (F := F) c 4 ch ∗ fare (F := F) c 3 ch ∗ fare (F := F) c 4 ch)
def B3 (c : Dev nD) (ch : Fin 8) : sProp 𝕄 :=
  iprop(over (F := F) c 1 ch ∗ over (F := F) c 2 ch ∗ kept m c ch ∗ sent (F := F) c 3 ch ∗ sent (F := F) c 4 ch)

theorem wp_loop3 (K : Dev nD × CK → ℕ) (c : Dev nD) (Q : PUnit → sProp 𝕄) (ch : Fin 8) (k : Pg F) :
    iprop(knows m K ∗ A3 (F := F) c ch ∗ owing (F := F) c (obs3 ch.val))
      ⊢ iprop((B3 m c ch ∗ owing (F := F) c (obs3 (ch.val + 1)) -∗ wpc c k Q) -∗ wpc c (loop3 c ch k) Q) := by
  unfold A3 B3 kept loop3 land
  iintro ⟨#HR, ⟨Hs1, Hs2, Hd1, Hd2, ⟨%fz, Hz⟩, ⟨%fy, Hy⟩, Hfz, Hfy⟩, HO⟩ Hk
  iapply (wp_await m K c 1 ch (oV ch c) (oV ch c) (oV ch c) (oV ch c) (oV_exact ch c) (oV_exact ch c) (oV_exact ch c) (oV_exact ch c) rfl rfl (obs3 ch.val) (obs3_lvl _)) $$ [HO Hs1 Hd1]
  · isplitr; · iexact HR
    isplitl [HO]; · iexact HO
    isplitl [Hs1]; · iexact Hs1
    iexact Hd1
  iintro ⟨HO, Ho1, Hl, Hr1⟩
  iapply (wp_await m K c 2 ch (oV ch c) (oV ch c) (oV ch c) (oV ch c) (oV_exact ch c) (oV_exact ch c) (oV_exact ch c) (oV_exact ch c) rfl rfl (obs3 ch.val) (obs3_lvl _)) $$ [HO Hs2 Hd2]
  · isplitr; · iexact HR
    isplitl [HO]; · iexact HO
    isplitl [Hs2]; · iexact Hs2
    iexact Hd2
  iintro ⟨HO, Ho2, Hr, Hr2⟩
  unfold sendPay recvPay
  ihave Hr1 := (Entails.of_eq (gAt_sub c fullShare (oS ch (pt 1 c)) (yS ch c) (gFin m c) (yS_sub ch c))) $$ Hr1
  ihave Hr2 := (Entails.of_eq (gAt_sub c fullShare (oS ch (pt 2 c)) (zS ch c) (gFin m c) (zS_sub ch c))) $$ Hr2
  icases Hr1 with ⟨Hsy, Hky⟩
  icases Hr2 with ⟨Hsz, Hkz⟩
  rw [obs3_at]
  iapply (wp_start m K c 3 ch (zDev c) rfl (zV ch c) (zV ch c) (zV_exact ch c) (zV_exact ch c) rfl ⟨⟨rfl, Or.inl rfl⟩, trivial⟩ rfl fullShare (gFin m c) fz
    (Entails.of_eq rfl) ((Entails.of_eq (landed (zV ch c) (zV ch c) (pt 1 c) (gFin m c) fz (gFin m c) rfl)).trans (Entails.of_eq (recv_3 m c ch))) (.rcv 4 ch :: obs3 (ch.val + 1))) $$ [HO Hfz Hsz Hz]
  · isplitr; · iexact HR
    isplitl [HO]; · iexact HO
    isplitl [Hfz]; · iexact Hfz
    unfold gAt
    isplitl [Hsz]; · iexact Hsz
    iexact Hz
  iintro ⟨HO, Hs3⟩
  iapply (wp_start m K c 4 ch (yDev c) rfl (yV ch c) (yV ch c) (yV_exact ch c) (yV_exact ch c) rfl ⟨⟨rfl, Or.inl rfl⟩, trivial⟩ rfl fullShare (gFin m c) fy
    (Entails.of_eq rfl) ((Entails.of_eq (landed (yV ch c) (yV ch c) (pt 2 c) (gFin m c) fy (gFin m c) rfl)).trans (Entails.of_eq (recv_4 m c ch))) (obs3 (ch.val + 1))) $$ [HO Hfy Hsy Hy]
  · isplitr; · iexact HR
    isplitl [HO]; · iexact HO
    isplitl [Hfy]; · iexact Hfy
    unfold gAt
    isplitl [Hsy]; · iexact Hsy
    iexact Hy
  iintro ⟨HO, Hs4⟩
  iapply Hk
  isplitr [HO]
  · isplitl [Ho1]; · iexact Ho1
    isplitl [Ho2]; · iexact Ho2
    isplitl [Hl Hr Hky Hkz]
    · isplitl [Hl Hr]
      · iapply (Entails.of_eq (gAt_halves c (oS ch c) (gFin m c)).symm)
        isplitl [Hl]; · iexact Hl
        iexact Hr
      isplitl [Hkz]; · iexact Hkz
      iexact Hky
    isplitl [Hs3]; · iexact Hs3
    iexact Hs4
  iexact HO

/-! ## Loop 4 -/

def A4 (c : Dev nD) (ch : Fin 8) : sProp 𝕄 :=
  iprop(sent (F := F) c 3 ch ∗ sent (F := F) c 4 ch ∗ due (F := F) c 3 ch ∗ due (F := F) c 4 ch ∗ kept m c ch)
def B4 (c : Dev nD) (ch : Fin 8) : sProp 𝕄 :=
  iprop(over (F := F) c 3 ch ∗ over (F := F) c 4 ch ∗ gAt c fullShare (wS ch) (gFin m c))
/-- The result buffer with the chunks before `n` written. -/
def outAt (c : Dev nD) (n : ℕ) : sProp 𝕄 := iprop(∃ f, ⌜outUpTo m c n f⌝ ∗ (((c : Thread nD τ).loc cc0_stg2_0) ↦[Finset.univ]{fullShare} f))
def J4 (c : Dev nD) (n : ℕ) : sProp 𝕄 := iprop(owing (F := F) c obs4 ∗ outAt m c n)

theorem wp_loop4 (K : Dev nD × CK → ℕ) (c : Dev nD) (Q : PUnit → sProp 𝕄) (ch : Fin 8) (k : Pg F) :
    iprop(knows m K ∗ A4 m c ch ∗ J4 m c ch.val)
      ⊢ iprop((B4 m c ch ∗ J4 m c (ch.val + 1) -∗ wpc c k Q) -∗ wpc c (loop4 c ch k) Q) := by
  unfold A4 B4 J4 kept loop4 outAt
  iintro ⟨#HR, ⟨Hs3, Hs4, Hd3, Hd4, Ho, Hkz, Hky⟩, HO, ⟨%f, %hf, Hout⟩⟩ Hk
  iapply (wp_await m K c 3 ch (zV ch c) (zV ch c) (zV ch c) (zV ch c) (zV_exact ch c) (zV_exact ch c) (zV_exact ch c) (zV_exact ch c) rfl rfl obs4 obs4_lvl) $$ [HO Hs3 Hd3]
  · isplitr; · iexact HR
    isplitl [HO]; · iexact HO
    isplitl [Hs3]; · iexact Hs3
    iexact Hd3
  iintro ⟨HO, Ho3, Hsz, Hr3⟩
  iapply (wp_await m K c 4 ch (yV ch c) (yV ch c) (yV ch c) (yV ch c) (yV_exact ch c) (yV_exact ch c) (yV_exact ch c) (yV_exact ch c) rfl rfl obs4 obs4_lvl) $$ [HO Hs4 Hd4]
  · isplitr; · iexact HR
    isplitl [HO]; · iexact HO
    isplitl [Hs4]; · iexact Hs4
    iexact Hd4
  iintro ⟨HO, Ho4, Hsy, Hr4⟩
  unfold sendPay recvPay
  ihave Hw := (Entails.of_eq (gAt_parts c fullShare ch (gFin m c)).symm) $$ [Ho Hkz Hky Hsz Hsy Hr3 Hr4]
  · isplitl [Ho]; · iexact Ho
    isplitl [Hky Hsy]
    · iapply (Entails.of_eq (gAt_sub c fullShare (oS ch (pt 1 c)) (yS ch c) (gFin m c) (yS_sub ch c)).symm)
      isplitl [Hsy]; · iexact Hsy
      iexact Hky
    isplitl [Hkz Hsz]
    · iapply (Entails.of_eq (gAt_sub c fullShare (oS ch (pt 2 c)) (zS ch c) (gFin m c) (zS_sub ch c)).symm)
      isplitl [Hsz]; · iexact Hsz
      iexact Hkz
    isplitl [Hr3]; · iexact Hr3
    iexact Hr4
  ihave Hw := (Entails.of_eq (show (gAt c fullShare (wS ch) (gFin m c) : sProp 𝕄) = ((gM.access (wRect ch)).loc (c : Thread nD τ) ↦[wS ch]{fullShare} (gFin m c)) from rfl)) $$ Hw
  iapply (wp_load_rect 𝒱₀ (c : Thread nD τ) none Set.univ (m := gM) (r := wRect ch) (sub_w ch)) $$ Hw; iintro Hw
  iapply (wp_load 𝒱₀ (c : Thread nD τ) none Set.univ (m := oM) (Finset.subset_univ _)) $$ Hout; iintro Hout
  iapply (wp_store 𝒱₀ (c : Thread nD τ) none Set.univ (m := oM) (r := cRect ch) (Mk := Finset.univ) (Finset.subset_univ _)) $$ Hout; iintro Hout
  iapply Hk
  isplitr [HO Hout]
  · isplitl [Ho3]; · iexact Ho3
    isplitl [Ho4]; · iexact Ho4
    unfold gAt; iexact Hw
  isplitl [HO]; · iexact HO
  iexists _
  isplitr
  · ipureintro; exact outUpTo_succ m c ch f hf
  iexact Hout

end Cert.KernelIdealProof

end
-- ==== Proof.KernelIdeal.Body.lean ====
/-
The whole body at a symbolic device: the opening handshake hands each partner the places it will write, the four
loops run, the closing handshake ends it, and every cell's counter is at zero again.
-/
module

public import proofs.«01_k».proof.Proof.KernelIdeal.Loops

@[expose] public section

set_option synthInstance.maxSize 4096

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Sorting the cells -/

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_two (Φ : Bool → sProp 𝕄) : bigSep Finset.univ Φ = iprop(Φ false ∗ Φ true) :=
  bigSep_univ_eq_bigSepL [false, true] (by decide) (by decide) Φ
theorem bigSep_unit (Φ : Unit → sProp 𝕄) : bigSep Finset.univ Φ = Φ () :=
  bigSep_univ_eq_bigSepL [()] (by decide) (by decide) Φ

/-- A device's cells: the barrier cell, the closing cell, and each transfer's two. -/
theorem bigSep_cells (Φ : CK → sProp 𝕄) : bigSep Finset.univ Φ
    = iprop(Φ (.inl ()) ∗ Φ (.inr (.inl ())) ∗ bigSep Finset.univ fun p : Fin 5 => bigSep Finset.univ fun ch : Fin 8 => iprop(Φ (snd p ch) ∗ Φ (rcv p ch))) := by
  rw [bigSep_univ_sum, bigSep_unit, bigSep_univ_sum, bigSep_unit, bigSep_univ_prod, bigSep_two, bigSep_univ_prod, bigSep_univ_prod, ← bigSep_sep']
  simp only [← bigSep_sep']
  rfl

/-! ## What a device starts with -/

/-- The duties of the units device `c` signals: to its partners' barrier cells, and to their closing cells. -/
def barToks (c : Dev nD) : sProp 𝕄 := bigSep Finset.univ fun i : Fin 3 => tok (F := F) (pt i c) (.inl ()) i
def endToks (c : Dev nD) : sProp 𝕄 := bigSep Finset.univ fun i : Fin 3 => tok (F := F) (pt i c) (.inr (.inl ())) i

/-- The cells before their round, the credits that will be paid to them, and the duties this device pays. -/
def mine (c : Dev nD) : sProp 𝕄 :=
  iprop(fresh (F := F) c (.inl ()) ∗ fresh (F := F) c (.inr (.inl ())) ∗ cred (tallyAt (barCell c) () 3) ∗ cred (tallyAt (endCell c) () 3)
    ∗ barToks (F := F) c ∗ endToks (F := F) c
    ∗ (bigSep Finset.univ fun p : Fin 5 => bigSep Finset.univ fun ch : Fin 8 => due (F := F) c p ch)
    ∗ bigSep Finset.univ fun p : Fin 5 => bigSep Finset.univ fun ch : Fin 8 => fare (F := F) c p ch)

/-- The three scratch buffers, at some contents. -/
def scr (c : Dev nD) : sProp 𝕄 :=
  iprop((∃ f, gAt (F := F) c fullShare Finset.univ f) ∗ (∃ f, sAt (F := F) c Finset.univ f) ∗ ∃ f, rAt (F := F) c Finset.univ f)

/-- The staged block of `dy`. -/
def yIn (c : Dev nD) : sProp 𝕄 := ((c : Thread nD τ).loc cc0_stg1_0) ↦[Finset.univ]{fullShare} (ystg m c)

/-! ## What the opening signals hand over -/

/-- The receive buffer goes to the `x` partner. -/
theorem give_r (c : Dev nD) (f) : rAt c Finset.univ f ⊢ barPay (F := F) (pt 0 c) 0 := by
  unfold barPay land
  rw [rAt_chunks, pt_pt]
  exact bigSep_mono fun ch _ => exists_intro (Φ := fun f => rAt c (rS ch) f) f

/-- The send buffer is its chunks, each at some contents. -/
theorem some_s (c : Dev nD) (f) : (bigSep Finset.univ fun ch => sAt c (sS ch) f) ⊢ bigSep Finset.univ fun ch => iprop(∃ f, sAt (F := F) c (sS ch) f) :=
  bigSep_mono fun ch _ => exists_intro (Φ := fun f => sAt c (sS ch) f) f

/-- The gathered result: its own row block is kept, the rest goes to the `z` and the `y` partner. -/
theorem give_g (c : Dev nD) (f) : gAt c fullShare Finset.univ f
    ⊢ iprop((bigSep Finset.univ fun ch => iprop(∃ f, gAt (F := F) c fullShare (oS ch c) f)) ∗ barPay (F := F) (pt 1 c) 1 ∗ barPay (F := F) (pt 2 c) 2) := by
  have he (S : Fin 8 → Finset (cc0_scratch0 : Ref sig .tc).ty.Idx) :
      (bigSep Finset.univ fun ch => gAt c fullShare (S ch) f) ⊢ bigSep Finset.univ fun ch => iprop(∃ f, gAt (F := F) c fullShare (S ch) f) :=
    bigSep_mono fun ch _ => exists_intro (Φ := fun f => gAt c fullShare (S ch) f) f
  unfold barPay land
  rw [gAt_chunks, pt_pt, pt_pt, bigSep_congr (s := Finset.univ) fun ch _ => gAt_parts c fullShare ch f]
  simp only [bigSep_sep']
  iintro ⟨H0, H1, H2, H3, H4⟩
  isplitl [H0]; · iapply (he fun ch => oS ch c); iexact H0
  isplitl [H1 H3]
  · isplitl [H1]; · iapply (he fun ch => oS ch (pt 1 c)); iexact H1
    iapply (he fun ch => zS ch (pt 1 c)); iexact H3
  isplitl [H2]; · iapply (he fun ch => oS ch (pt 2 c)); iexact H2
  iapply (he fun ch => yS ch (pt 2 c)); iexact H4

/-! ## The two handshakes -/

theorem wpc_ret (c : Dev nD) (Q : PUnit → sProp 𝕄) : iprop(|={Set.univ}=> Q ⟨⟩) ⊢ wpc c (.ret ⟨⟩) Q := Entails.of_eq (wp_ret _ _ _ _ _).symm
theorem wpc_device (c : Dev nD) (k : Dev nD → Pg F) (Q : PUnit → sProp 𝕄) : wpc c (k c) Q ⊢ wpc c (.op .deviceId k) Q :=
  Entails.of_eq (wp_deviceId 𝒱₀ (c : Thread nD τ) none Set.univ).symm

theorem wp_opening (K : Dev nD × CK → ℕ) (c : Dev nD) (k : Pg F) (Q : PUnit → sProp 𝕄) :
    iprop(knows m K ∗ owing (F := F) c obs0 ∗ barToks (F := F) c ∗ cred (tallyAt (barCell c) () 3) ∗ fresh (F := F) c (.inl ())
        ∗ barPay (F := F) (pt 0 c) 0 ∗ barPay (F := F) (pt 1 c) 1 ∗ barPay (F := F) (pt 2 c) 2)
      ⊢ iprop((owing (F := F) c (obs1 0) ∗ spent (F := F) c (.inl ()) ∗ barPay (F := F) c 0 ∗ barPay (F := F) c 1 ∗ barPay (F := F) c 2 -∗ wpc c k Q)
        -∗ wpc c (opening c k) Q) := by
  unfold opening obs0 barToks
  rw [bigSep_three]
  iintro ⟨#HR, HO, ⟨Ht0, Ht1, Ht2⟩, Hc, Hf, Hp0, Hp1, Hp2⟩ Hk
  iapply (wp_hello m K c 0 (xDev c) rfl _ rfl) $$ [HO Ht0 Hp0]
  · isplitr; · iexact HR
    isplitl [HO]; · iexact HO
    isplitl [Ht0]; · iexact Ht0
    iexact Hp0
  iintro HO
  iapply (wp_hello m K c 1 (zDev c) rfl _ rfl) $$ [HO Ht1 Hp1]
  · isplitr; · iexact HR
    isplitl [HO]; · iexact HO
    isplitl [Ht1]; · iexact Ht1
    iexact Hp1
  iintro HO
  iapply (wp_hello m K c 2 (yDev c) rfl _ rfl) $$ [HO Ht2 Hp2]
  · isplitr; · iexact HR
    isplitl [HO]; · iexact HO
    isplitl [Ht2]; · iexact Ht2
    iexact Hp2
  iintro HO
  iapply (wp_met m K c _ rfl (obs1 0) (obs1_lvl 0)) $$ [HO Hc Hf]
  · isplitr; · iexact HR
    isplitl [HO]; · iexact HO
    isplitl [Hc]; · iexact Hc
    iexact Hf
  iexact Hk

theorem wp_close (K : Dev nD × CK → ℕ) (c : Dev nD) (Q : PUnit → sProp 𝕄) :
    iprop(knows m K ∗ owing (F := F) c obs4 ∗ endToks (F := F) c ∗ cred (tallyAt (endCell c) () 3) ∗ fresh (F := F) c (.inr (.inl ())))
      ⊢ iprop((owing (F := F) c [] ∗ spent (F := F) c (.inr (.inl ())) -∗ |={Set.univ}=> Q ⟨⟩) -∗ wpc c (close c) Q) := by
  unfold close obs4 endToks
  rw [bigSep_three]
  iintro ⟨#HR, HO, ⟨Ht0, Ht1, Ht2⟩, Hc, Hf⟩ Hk
  iapply (wp_bye m K c 0 (xDev c) rfl _ rfl) $$ [HO Ht0]
  · isplitr; · iexact HR
    isplitl [HO]; · iexact HO
    iexact Ht0
  iintro HO
  iapply (wp_bye m K c 1 (zDev c) rfl _ rfl) $$ [HO Ht1]
  · isplitr; · iexact HR
    isplitl [HO]; · iexact HO
    iexact Ht1
  iintro HO
  iapply (wp_bye m K c 2 (yDev c) rfl _ rfl) $$ [HO Ht2]
  · isplitr; · iexact HR
    isplitl [HO]; · iexact HO
    iexact Ht2
  iintro HO
  iapply (wp_parted m K c _ rfl) $$ [HO Hc Hf]
  · isplitr; · iexact HR
    isplitl [HO]; · iexact HO
    isplitl [Hc]; · iexact Hc
    iexact Hf
  iintro H
  iapply (wpc_ret c Q)
  iapply Hk; iexact H

/-! ## The cells closed -/

theorem close_cell (K : Dev nD × CK → ℕ) (c : Dev nD) (k : CK) : iprop(knows m K ∗ spent (F := F) c k) ⊢ |={Set.univ}=> semVal (kcell (c, k)) 0 := by
  iintro ⟨#HR, H⟩
  iapply (Rounds.cell_close ER (Rd m) (Set.mem_univ (K (c, k))) (fun h => h) (R := 0 + 1) (duties_later m (kcell (c, k))))
  isplitr; · iapply (inv_at m K (c, k)); iexact HR
  iexact H

theorem bigSep_knowing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_cells (K : Dev nD × CK → ℕ) (c : Dev nD) :
    iprop(knows m K ∗ bigSep Finset.univ fun k : CK => spent (F := F) c k) ⊢ |={Set.univ}=> bigSep Finset.univ fun k : CK => semVal (kcell (c, k)) 0 :=
  (bigSep_knowing fun k _ => close_cell m K c k).trans (bigSep_fupd _ _)

/-! ## The body -/

/-- What the body leaves. -/
def done (c : Dev nD) : sProp 𝕄 :=
  iprop(owing (F := F) c [] ∗ scr (F := F) c ∗ (bigSep Finset.univ fun k : CK => semVal (kcell (c, k)) 0) ∗ xIn m c ∗ yIn m c ∗ outAt m c 8)

theorem load_y (c : Dev nD) : k0_pay2 (yM.view.readAt (Elt F) (Rect.unit (s := S1024x4096) ![0, 0] S1024x4096.size inb_S1024x4096_S1024x4096_0_0).toLoadRect (ystg m c)) = yv m c := rfl

theorem A1_eq (c : Dev nD) : bigSep Finset.univ (A1 (F := F) c)
    = iprop((bigSep Finset.univ fun ch => iprop(∃ f, sAt (F := F) c (sS ch) f)) ∗ (bigSep Finset.univ fun ch => land (F := F) c 0 ch) ∗ bigSep Finset.univ fun ch => fare (F := F) c 0 ch) := by
  unfold A1; simp only [bigSep_sep']
theorem A2_eq (c : Dev nD) : bigSep Finset.univ (A2 (F := F) c)
    = iprop((bigSep Finset.univ fun ch => iprop(∃ f, gAt (F := F) c fullShare (oS ch c) f)) ∗ (bigSep Finset.univ fun ch => sent (F := F) c 0 ch)
      ∗ (bigSep Finset.univ fun ch => due (F := F) c 0 ch) ∗ (bigSep Finset.univ fun ch => land (F := F) c 1 ch) ∗ (bigSep Finset.univ fun ch => land (F := F) c 2 ch)
      ∗ (bigSep Finset.univ fun ch => fare (F := F) c 1 ch) ∗ bigSep Finset.univ fun ch => fare (F := F) c 2 ch) := by
  unfold A2; simp only [bigSep_sep']
theorem B2_eq (c : Dev nD) : bigSep Finset.univ (B2 m c)
    = iprop((bigSep Finset.univ fun ch => sAt c (sS ch) (sFin m c)) ∗ (bigSep Finset.univ fun ch => rAt c (rS ch) (rFin m c))
      ∗ (bigSep Finset.univ fun ch => over (F := F) c 0 ch) ∗ (bigSep Finset.univ fun ch => sent (F := F) c 1 ch) ∗ bigSep Finset.univ fun ch => sent (F := F) c 2 ch) := by
  unfold B2; simp only [bigSep_sep']
theorem A3_eq (c : Dev nD) : bigSep Finset.univ (A3 (F := F) c)
    = iprop((bigSep Finset.univ fun ch => sent (F := F) c 1 ch) ∗ (bigSep Finset.univ fun ch => sent (F := F) c 2 ch)
      ∗ (bigSep Finset.univ fun ch => due (F := F) c 1 ch) ∗ (bigSep Finset.univ fun ch => due (F := F) c 2 ch)
      ∗ (bigSep Finset.univ fun ch => land (F := F) c 3 ch) ∗ (bigSep Finset.univ fun ch => land (F := F) c 4 ch)
      ∗ (bigSep Finset.univ fun ch => fare (F := F) c 3 ch) ∗ bigSep Finset.univ fun ch => fare (F := F) c 4 ch) := by
  unfold A3; simp only [bigSep_sep']
theorem B3_eq (c : Dev nD) : bigSep Finset.univ (B3 m c)
    = iprop((bigSep Finset.univ fun ch => over (F := F) c 1 ch) ∗ (bigSep Finset.univ fun ch => over (F := F) c 2 ch) ∗ (bigSep Finset.univ fun ch => kept m c ch)
      ∗ (bigSep Finset.univ fun ch => sent (F := F) c 3 ch) ∗ bigSep Finset.univ fun ch => sent (F := F) c 4 ch) := by
  unfold B3; simp only [bigSep_sep']
theorem A4_eq (c : Dev nD) : bigSep Finset.univ (A4 m c)
    = iprop((bigSep Finset.univ fun ch => sent (F := F) c 3 ch) ∗ (bigSep Finset.univ fun ch => sent (F := F) c 4 ch)
      ∗ (bigSep Finset.univ fun ch => due (F := F) c 3 ch) ∗ (bigSep Finset.univ fun ch => due (F := F) c 4 ch) ∗ bigSep Finset.univ fun ch => kept m c ch) := by
  unfold A4; simp only [bigSep_sep']
theorem B4_eq (c : Dev nD) : bigSep Finset.univ (B4 m c)
    = iprop((bigSep Finset.univ fun ch => over (F := F) c 3 ch) ∗ (bigSep Finset.univ fun ch => over (F := F) c 4 ch) ∗ gAt c fullShare Finset.univ (gFin m c)) := by
  unfold B4; rw [gAt_chunks]; simp only [bigSep_sep']

theorem wp_body (K : Dev nD × CK → ℕ) (c : Dev nD) (Q : PUnit → sProp 𝕄) :
    iprop(knows m K ∗ mine (F := F) c ∗ owing (F := F) c obs0 ∗ scr (F := F) c ∗ xIn m c ∗ yIn m c ∗ ∃ f, (((c : Thread nD τ).loc cc0_stg2_0) ↦[Finset.univ]{fullShare} f))
      ⊢ iprop((done m c -∗ Q ⟨⟩) -∗ wpc c body Q) := by
  unfold mine scr body
  rw [bigSep_five, bigSep_five]
  iintro ⟨#HR, ⟨Hfb, Hfe, Hcb, Hce, Htb, Hte, ⟨Hd0, Hd1, Hd2, Hd3, Hd4⟩, Hf0, Hf1, Hf2, Hf3, Hf4⟩, HO, ⟨⟨%fg, Hg⟩, ⟨%fs, Hs⟩, ⟨%fr, Hr⟩⟩, Hx, Hy, ⟨%fo, Hout⟩⟩ Hk
  iapply (wpc_device c)
  unfold yIn
  iapply (wp_load 𝒱₀ (c : Thread nD τ) none Set.univ (m := yM) (Finset.subset_univ _)) $$ Hy; iintro Hy
  rw [load_y]
  ihave Hr := (give_r c fr) $$ Hr
  ihave Hg := (give_g c fg) $$ Hg
  icases Hg with ⟨Hg, Hp1, Hp2⟩
  iapply (wp_opening m K c) $$ [HO Htb Hcb Hfb Hr Hp1 Hp2]
  · isplitr; · iexact HR
    isplitl [HO]; · iexact HO
    isplitl [Htb]; · iexact Htb
    isplitl [Hcb]; · iexact Hcb
    isplitl [Hfb]; · iexact Hfb
    isplitl [Hr]; · iexact Hr
    isplitl [Hp1]; · iexact Hp1
    iexact Hp2
  iintro ⟨HO, Hsb, Hl0, Hl13, Hl24⟩
  unfold barPay
  icases Hl13 with ⟨Hl1, Hl3⟩
  icases Hl24 with ⟨Hl2, Hl4⟩
  -- the first loop
  iapply (wp_chunks (knows m K) c (loop1 c (yv m c)) (A1 c) (fun ch => sent c 0 ch) (J1 m c) Q (wp_loop1 m K c Q)) $$ [Hs Hl0 Hf0 HO Hx]
  · isplitr; · iexact HR
    isplitr [HO Hx]
    · iapply (Entails.of_eq (A1_eq (F := F) c).symm)
      isplitl [Hs]
      · ihave Hs := (Entails.of_eq (sAt_chunks c fs)) $$ Hs
        iapply (some_s c fs)
        iexact Hs
      isplitl [Hl0]; · iexact Hl0
      iexact Hf0
    unfold J1
    isplitl [HO]; · iexact HO
    iexact Hx
  iintro ⟨Hs0, HJ⟩
  unfold J1
  icases HJ with ⟨HO, Hx⟩
  rw [show obs1 8 = obs2 0 from rfl]
  -- the second
  iapply (wp_chunks (knows m K) c (loop2 c (yv m c)) (A2 c) (B2 m c) (J2 m c) Q (wp_loop2 m K c Q)) $$ [Hg Hs0 Hd0 Hl1 Hl2 Hf1 Hf2 HO Hx]
  · isplitr; · iexact HR
    isplitr [HO Hx]
    · iapply (Entails.of_eq (A2_eq (F := F) c).symm)
      isplitl [Hg]; · iexact Hg
      isplitl [Hs0]; · iexact Hs0
      isplitl [Hd0]; · iexact Hd0
      isplitl [Hl1]; · iexact Hl1
      isplitl [Hl2]; · iexact Hl2
      isplitl [Hf1]; · iexact Hf1
      iexact Hf2
    unfold J2
    isplitl [HO]; · iexact HO
    iexact Hx
  iintro ⟨HB, HJ⟩
  unfold J2
  icases HJ with ⟨HO, Hx⟩
  ihave HB := (Entails.of_eq (B2_eq m c)) $$ HB
  icases HB with ⟨Hs, Hr, Ho0, Hs1, Hs2⟩
  rw [show obs2 8 = obs3 0 from rfl]
  -- the third
  iapply (wp_chunks (knows m K) c (loop3 c) (A3 c) (B3 m c) (fun n => owing c (obs3 n)) Q (wp_loop3 m K c Q)) $$ [Hs1 Hs2 Hd1 Hd2 Hl3 Hl4 Hf3 Hf4 HO]
  · isplitr; · iexact HR
    isplitr [HO]
    · iapply (Entails.of_eq (A3_eq (F := F) c).symm)
      isplitl [Hs1]; · iexact Hs1
      isplitl [Hs2]; · iexact Hs2
      isplitl [Hd1]; · iexact Hd1
      isplitl [Hd2]; · iexact Hd2
      isplitl [Hl3]; · iexact Hl3
      isplitl [Hl4]; · iexact Hl4
      isplitl [Hf3]; · iexact Hf3
      iexact Hf4
    iexact HO
  iintro ⟨HB, HO⟩
  ihave HB := (Entails.of_eq (B3_eq m c)) $$ HB
  icases HB with ⟨Ho1, Ho2, Hkept, Hs3, Hs4⟩
  rw [show obs3 8 = obs4 from rfl]
  -- the fourth
  iapply (wp_chunks (knows m K) c (loop4 c) (A4 m c) (B4 m c) (J4 m c) Q (wp_loop4 m K c Q)) $$ [Hs3 Hs4 Hd3 Hd4 Hkept HO Hout]
  · isplitr; · iexact HR
    isplitr [HO Hout]
    · iapply (Entails.of_eq (A4_eq m c).symm)
      isplitl [Hs3]; · iexact Hs3
      isplitl [Hs4]; · iexact Hs4
      isplitl [Hd3]; · iexact Hd3
      isplitl [Hd4]; · iexact Hd4
      iexact Hkept
    unfold J4 outAt
    isplitl [HO]; · iexact HO
    iexists fo
    isplitr; · ipureintro; exact outUpTo_zero m c fo
    iexact Hout
  iintro ⟨HB, HJ⟩
  unfold J4
  icases HJ with ⟨HO, Hout⟩
  ihave HB := (Entails.of_eq (B4_eq m c)) $$ HB
  icases HB with ⟨Ho3, Ho4, Hg⟩
  -- the closing handshake
  iapply (wp_close m K c Q) $$ [HO Hte Hce Hfe]
  · isplitr; · iexact HR
    isplitl [HO]; · iexact HO
    isplitl [Hte]; · iexact Hte
    isplitl [Hce]; · iexact Hce
    iexact Hfe
  iintro ⟨HO, Hse⟩
  imod (close_cells m K c) $$ [Hsb Hse Ho0 Ho1 Ho2 Ho3 Ho4] with Hz
  · isplitr; · iexact HR
    rw [bigSep_cells, bigSep_five]
    isplitl [Hsb]; · iexact Hsb
    isplitl [Hse]; · iexact Hse
    isplitl [Ho0]; · iexact Ho0
    isplitl [Ho1]; · iexact Ho1
    isplitl [Ho2]; · iexact Ho2
    isplitl [Ho3]; · iexact Ho3
    iexact Ho4
  imodintro
  iapply Hk
  unfold done scr yIn
  isplitl [HO]; · iexact HO
  isplitl [Hg Hs Hr]
  · isplitl [Hg]; · iexists _; iexact Hg
    isplitl [Hs]
    · iexists (sFin m c)
      iapply (Entails.of_eq (sAt_chunks c (sFin m c)).symm); iexact Hs
    · iexists (rFin m c)
      iapply (Entails.of_eq (rAt_chunks c (rFin m c)).symm); iexact Hr
  isplitl [Hz]; · iexact Hz
  isplitl [Hx]; · iexact Hx
  isplitl [Hy]; · iexact Hy
  iexact Hout

end Cert.KernelIdealProof

end
-- ==== Proof.KernelIdeal.Launch.lean ====
/-
The launch: what each device is dealt, the cells allocated and their duties handed to the devices that pay them,
and the run of the whole program from any memory with its counters at zero.
-/
module

public import proofs.«01_k».proof.Proof.KernelIdeal.Body
public import proofs.«01_k».proof.Proof.Gen.KernelIdeal.Frame
public import Idealize.ShloMosaic.Lib.Pipeline.Launch
public import Idealize.ShloMosaic.Lib.Pipeline.Kit
public import Idealize.ShloMosaic.Lib.Pipeline.CollectiveSegs

@[expose] public section

set_option synthInstance.maxSize 4096

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The pipeline's data -/

/-- What device `c`'s body starts from besides its buffers. -/
def start (c : Dev nD) : sProp 𝕄 := iprop(∃ K, knows m K ∗ mine (F := F) c)

def Φ₀ (c : Dev nD) : sProp 𝕄 := iprop(start m c ∗ scr (F := F) c)
def Φ₁ (c : Dev nD) : sProp 𝕄 := iprop(scr (F := F) c ∗ bigSep Finset.univ fun k : CK => semVal (kcell (c, k)) 0)

/-- The single point: the two blocks of the inputs come in, the result goes out. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => ystg m c
    | ⟨2, _⟩ => outF m c
  Φ t := match t with
    | ⟨0, _⟩ => Φ₀ m c
    | ⟨_ + 1, _⟩ => Φ₁ (F := F) c
  q _ := fullShare
  owed t := match t with
    | ⟨0, _⟩ => owedL c obs0
    | ⟨_ + 1, _⟩ => 0

theorem fetch_x (t : Fin cfg0.N) : (cfg0.win (0 : Fin 3)).fetch t = true := by rw [fin_N0 t]; rfl
theorem fetch_y (t : Fin cfg0.N) : (cfg0.win (1 : Fin 3)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def bodyPost (c : Dev nD) : sProp 𝕄 :=
  iprop(Φ₁ (F := F) c ∗ (dats m 0 c).owesAt () t0_0.succ ∗ stg c cc0_stg0_0 (xstg m c) ∗ stg c cc0_stg1_0 (ystg m c) ∗ stg c cc0_stg2_0 (outF m c))

theorem sound_body (c : Dev nD) : bodyPre m c ⊢ wpc c body fun _ => bodyPost m c := by
  unfold bodyPre Φ₀ start
  iintro ⟨⟨⟨%K, Hk, Hm⟩, Hscr⟩, Ho, ⟨%d0, %g0, %hg0, Hx⟩, ⟨%d1, %g1, %hg1, Hy⟩, ⟨%d2, %g2, %hg2, Hout⟩⟩
  have hx : g0 = xstg m c := by rw [hg0]; unfold Dat.before; rw [if_pos (fetch_x t0_0)]; rfl
  have hy : g1 = ystg m c := by rw [hg1]; unfold Dat.before; rw [if_pos (fetch_y t0_0)]; rfl
  subst hx hy
  unfold Dat.owesAt Pipeline.owesWithin
  icases Ho with ⟨%W, %hW, HO⟩
  iapply (wp_body m K c fun _ => bodyPost m c) $$ [Hk Hm HO Hscr Hx Hy Hout]
  · isplitl [Hk]; · iexact Hk
    isplitl [Hm]; · iexact Hm
    isplitl [HO]; · unfold owing; iexists W; iexact HO
    isplitl [Hscr]; · iexact Hscr
    isplitl [Hx]; · unfold xIn; iexact Hx
    isplitl [Hy]; · unfold yIn; iexact Hy
    iexists g2; iexact Hout
  unfold done owing outAt
  iintro ⟨⟨%W', HO⟩, Hscr, Hz, Hx, Hy, ⟨%fo, %ho, Hout⟩⟩
  unfold bodyPost Φ₁ Dat.owesAt Pipeline.owesWithin
  isplitl [Hscr Hz]
  · isplitl [Hscr]; · iexact Hscr
    iexact Hz
  isplitl [HO]
  · iexists W'
    isplitr; · ipureintro; exact fun _ _ => Or.inl trivial
    iexact HO
  isplitl [Hx]
  · iexists _; isplitr; · (ipureintro; rfl)
    unfold xIn; iexact Hx
  isplitl [Hy]
  · iexists _; isplitr; · (ipureintro; rfl)
    unfold yIn; iexact Hy
  iexists fo; isplitr; · (ipureintro; exact outUpTo_eight m c fo ho)
  iexact Hout

set_option maxRecDepth 65536 in
theorem body_obligation (c : Dev nD) : BodyObligation (dats (F := F) m 0 c) (defs₀ (F := F)) 𝒱₀ () Set.univ := fun t => by
  rw [fin_N0 t, bigSep_W0, bigSep_W0]
  simp only [owns_whole_eq]
  show bodyPre m c ⊢ wp frame (wpE (defs₀ (F := F)) 𝒱₀ (c : Thread nD τ) none) Set.univ
    (cc0_body (F := F) xM (Memref.isWhole_whole _) yM (Memref.isWhole_whole _) oM (Memref.isWhole_whole _) gM (Memref.isWhole_whole _)
      sM (Memref.isWhole_whole _) rM (Memref.isWhole_whole _) cc0_scratch3 cc0_scratch4 cc0_scoped0) (fun _ => bodyPost m c)
  rw [body_eq]
  exact sound_body m c

/-! ## What the launch deals -/

theorem osem_facts : Pipeline.OwnSemFacts cfg0.spec osem :=
  ⟨by decide +kernel, fun _ _ h => Sum.inr_injective (csem_injective h), by decide +kernel⟩

theorem share_eq (c : Dev nD) (w : Fin cfg0.W) : (dats m 0 c).share w = fullShare := by unfold Dat.share; split <;> rfl

def cells : Finset (GSem nD τ sig) := Finset.univ.map ⟨kcell, kcell_injective⟩

/-- A device's own cells' duties: three of the barrier cell, three of the closing cell, one of each transfer's cells. -/
abbrev TK : Type := Fin 3 ⊕ (Fin 3 ⊕ XK)
abbrev tkey : TK → CK | .inl _ => .inl () | .inr (.inl _) => .inr (.inl ()) | .inr (.inr x) => .inr (.inr x)
abbrev tdut : TK → Fin 3 | .inl i => i | .inr (.inl i) => i | .inr (.inr _) => 0
abbrev tokOf (ct : Dev nD × TK) : GSem nD τ sig × ℕ × Fin 3 := (kcell (ct.1, tkey ct.2), 0, tdut ct.2)

theorem tokOf_injective : Function.Injective (tokOf : Dev nD × TK → GSem nD τ sig × ℕ × Fin 3) := by
  rintro ⟨c, t⟩ ⟨c', t'⟩ h
  have hk := kcell_injective (congrArg Prod.fst h)
  have hd : tdut t = tdut t' := congrArg (fun x : GSem nD τ sig × ℕ × Fin 3 => x.2.2) h
  have hc : c = c' := congrArg Prod.fst hk
  have hk : tkey t = tkey t' := congrArg Prod.snd hk
  have ht : t = t' := by
    rcases t with i | i | x <;> rcases t' with i' | i' | x'
    · exact congrArg Sum.inl hd
    · exact absurd hk (by rintro ⟨⟩)
    · exact absurd hk (by rintro ⟨⟩)
    · exact absurd hk (by rintro ⟨⟩)
    · exact congrArg (Sum.inr ∘ Sum.inl) hd
    · exact absurd (Sum.inr_injective hk) (by rintro ⟨⟩)
    · exact absurd hk (by rintro ⟨⟩)
    · exact absurd (Sum.inr_injective hk) (by rintro ⟨⟩)
    · exact congrArg (Sum.inr ∘ Sum.inr) (Sum.inr_injective (Sum.inr_injective hk))
  rw [hc, ht]

def duties : Finset (GSem nD τ sig × ℕ × Fin 3) := Finset.univ.map ⟨tokOf, tokOf_injective⟩

def u₀ : UU := (initOf (Pipeline.cells cfgs cellOf_inj) (Pipeline.launchToks cfgs cellOf_inj), initOf cells duties)

/-- The duties of device `c`'s own cells. -/
def toks (c : Dev nD) : sProp 𝕄 := bigSep Finset.univ fun t : TK => tok (F := F) c (tkey t) (tdut t)

def G (c : Dev nD) : sProp 𝕄 :=
  iprop((bigSep Finset.univ fun k : CK => roundState ER (Rd m) (kcell (c, k)) 0)
    ∗ ((bigSep Finset.univ fun k : CK => fresh (F := F) c k) ∗ bigSep Finset.univ fun k : CK => reached ER (kcell (c, k)) 0) ∗ toks (F := F) c)

theorem fund_cells : BI.own (ER (initOf cells duties)) ⊢ (|==> bigSep Finset.univ (G m) : sProp 𝕄) := by
  have hX (Φ : GSem nD τ sig → sProp 𝕄) : bigSep cells Φ = bigSep Finset.univ fun c : Dev nD => bigSep Finset.univ fun k : CK => Φ (kcell (c, k)) := by
    unfold cells; rw [bigSep_map, bigSep_univ_prod]; rfl
  have hT : bigSep duties (fun x => (dutyTok ER x.1 x.2.1 x.2.2 : sProp 𝕄)) = bigSep Finset.univ fun c : Dev nD => toks c := by
    unfold duties toks; rw [bigSep_map, bigSep_univ_prod]; rfl
  iintro HX
  imod (Rounds.fund ER (Rd m) cells duties) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-! ## The cells allocated -/

theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's counters: the barrier's and the kernel's own. -/
theorem counters_eq (c : Dev nD) : (bigSep Finset.univ fun k : CK => (semVal (kcell (c, k)) 0 : sProp 𝕄))
    = iprop(unscopedSems0 c ∗ Pipeline.ownSems0 (Ix := Unit) (Name := ℕ) (U := UU) (Lvl := ℕ) (Val := Elt F) (τ := τ) osem c) := by
  rw [bigSep_univ_sum, bigSep_unit, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ ((bigSep Finset.univ fun k : CK => fresh (F := F) c k) ∗ bigSep Finset.univ fun k : CK => reached ER (kcell (c, k)) 0) ∗ toks (F := F) c) := by
  unfold G
  iintro ⟨Hos, Hus, Hst, Hat, Htok⟩
  ihave Hv := (Entails.of_eq (counters_eq (F := F) c).symm) $$ [Hos Hus]
  · isplitl [Hus]; · iexact Hus
    iexact Hos
  imod (show iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-! ## The duties dealt to the devices that pay them -/

theorem around {I : Type} [Fintype I] (e : I → Dev nD ≃ Dev nD) (Φ : Dev nD → I → sProp 𝕄) :
    (bigSep Finset.univ fun c : Dev nD => bigSep Finset.univ fun i : I => Φ c i) = bigSep Finset.univ fun c : Dev nD => bigSep Finset.univ fun i : I => Φ (e i c) i := by
  rw [bigSep_univ_comm, bigSep_univ_comm (fun c i => Φ (e i c) i)]
  exact bigSep_congr fun i _ => bigSep_univ_equiv (e i) fun c => Φ c i

def payToks (c : Dev nD) : sProp 𝕄 :=
  iprop(barToks (F := F) c ∗ endToks (F := F) c ∗ bigSep Finset.univ fun p : Fin 5 => bigSep Finset.univ fun ch : Fin 8 => fare (F := F) c p ch)

theorem toks_around : (bigSep Finset.univ fun c : Dev nD => toks (F := F) c) = bigSep Finset.univ fun c : Dev nD => payToks (F := F) c := by
  have h (c : Dev nD) : toks (F := F) c = iprop((bigSep Finset.univ fun i : Fin 3 => tok (F := F) c (.inl ()) i)
      ∗ (bigSep Finset.univ fun i : Fin 3 => tok (F := F) c (.inr (.inl ())) i)
      ∗ (bigSep Finset.univ fun x : Fin 5 × Fin 8 => tok (F := F) c (snd x.1 x.2) 0) ∗ bigSep Finset.univ fun x : Fin 5 × Fin 8 => tok (F := F) c (rcv x.1 x.2) 0) := by
    unfold toks
    rw [bigSep_univ_sum, bigSep_univ_sum, bigSep_univ_prod (α := Bool), bigSep_two]; rfl
  have h' (c : Dev nD) : payToks (F := F) c = iprop((bigSep Finset.univ fun i : Fin 3 => tok (F := F) (ptEquiv i c) (.inl ()) i)
      ∗ (bigSep Finset.univ fun i : Fin 3 => tok (F := F) (ptEquiv i c) (.inr (.inl ())) i)
      ∗ (bigSep Finset.univ fun x : Fin 5 × Fin 8 => tok (F := F) c (snd x.1 x.2) 0)
      ∗ bigSep Finset.univ fun x : Fin 5 × Fin 8 => tok (F := F) (ptEquiv (ax x.1) c) (rcv x.1 x.2) 0) := by
    unfold payToks barToks endToks fare
    rw [bigSep_univ_prod (fun x : Fin 5 × Fin 8 => tok (F := F) c (snd x.1 x.2) 0), bigSep_univ_prod (fun x : Fin 5 × Fin 8 => tok (F := F) (ptEquiv (ax x.1) c) (rcv x.1 x.2) 0)]
    simp only [bigSep_sep']
    rfl
  rw [bigSep_congr (s := Finset.univ) fun c _ => h c, bigSep_congr (s := Finset.univ) fun c _ => h' c]
  simp only [bigSep_sep']
  rw [around ptEquiv (fun c i => tok (F := F) c (.inl ()) i), around ptEquiv (fun c i => tok (F := F) c (.inr (.inl ())) i),
    around (fun x : Fin 5 × Fin 8 => ptEquiv (ax x.1)) (fun c x => tok (F := F) c (rcv x.1 x.2) 0)]

/-- What the allocation leaves device `c`. -/
def G' (c : Dev nD) : sProp 𝕄 := iprop(∃ K, records m K ∗ (bigSep Finset.univ fun k : CK => fresh (F := F) c k) ∗ payToks (F := F) c)

theorem regroup :
    (bigSep Finset.univ fun c : Dev nD => iprop((bigSep Finset.univ fun k : CK => iprop(∃ κ : ℕ, cellInv ER (Rd m) κ (kcell (c, k))))
          ∗ ((bigSep Finset.univ fun k : CK => fresh (F := F) c k) ∗ bigSep Finset.univ fun k : CK => reached ER (kcell (c, k)) 0) ∗ toks (F := F) c) : sProp 𝕄)
      ⊢ bigSep Finset.univ (G' m) := by
  simp only [bigSep_sep']
  rw [← bigSep_univ_prod (fun ck : Dev nD × CK => iprop(∃ κ : ℕ, cellInv ER (Rd m) κ (kcell ck))),
    ← bigSep_univ_prod (fun ck : Dev nD × CK => (reached ER (kcell ck) 0 : sProp 𝕄)), toks_around]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  iapply (bigSep_knowing (R := records m K) (Φ := fun c : Dev nD => iprop((bigSep Finset.univ fun k : CK => fresh (F := F) c k) ∗ payToks (F := F) c))
    fun c _ => exists_intro (Φ := fun K => iprop(records m K ∗ (bigSep Finset.univ fun k : CK => fresh (F := F) c k) ∗ payToks (F := F) c)) K)
  isplitr
  · unfold records; isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What the payments of a list bring device `c` from its partners. -/
def credL (c : Dev nD) : List Ob → sProp 𝕄
  | [] => iprop(emp)
  | o :: l => iprop(cred (tallyAt (kcell (c, o.key)) () o.amt) ∗ credL c l)

theorem creds_list (c : Dev nD) : ∀ l : List Ob, (Pipeline.launchCred (fun d => owedL d l) c : sProp 𝕄) ⊢ credL (F := F) c l
  | [] => Entails.of_eq (Pipeline.launchCred_zero c)
  | o :: l => by
    have h := Pipeline.launchCred_add (Ix := Unit) (Name := ℕ) (U := UU) (Lvl := ℕ) (Val := Elt F) (fun d => owedL d l) (fun d => tallyAt (kcell (pt o.dst d, o.key)) () o.amt) c
    refine (Entails.of_eq h).trans ?_
    unfold credL
    iintro ⟨Hl, Ho⟩
    isplitl [Ho]
    · iapply (Pipeline.launchCred_tallyAt (csem o.key) (pt o.dst) (pt o.dst) (pt_pt _) (pt_pt _) () o.amt c); iexact Ho
    · iapply (creds_list c l); iexact Hl

theorem credL_append (c : Dev nD) : ∀ l l' : List Ob, credL (F := F) c (l ++ l') = iprop(credL c l ∗ credL c l')
  | [], l' => (BI.equiv_iff.mp BI.emp_sep).symm
  | o :: l, l' => by
    show iprop(_ ∗ credL c (l ++ l')) = iprop((_ ∗ _) ∗ _)
    rw [credL_append c l l']
    exact BI.equiv_iff.mp ⟨BI.sep_assoc', BI.sep_assoc⟩

theorem credL_rem (c : Dev nD) (f : Fin 8 → List Ob) : credL (F := F) c (rem 0 f) = bigSep Finset.univ fun ch => credL (F := F) c (f ch) := by
  rw [show rem 0 f = f 0 ++ (f 1 ++ (f 2 ++ (f 3 ++ (f 4 ++ (f 5 ++ (f 6 ++ (f 7 ++ []))))))) from rfl, List.append_nil, bigSep_eight]
  simp only [credL_append]

theorem three_units (g : GSem nD τ sig) : iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  exact (sep_mono_right (cred_add _ _).2).trans (cred_add _ _).2

/-- The credits dealt to device `c`: three units for its barrier and for its closing cell, each transfer's for its receive cell. -/
theorem creds (c : Dev nD) : (Pipeline.launchCred (fun d => owedL d obs0) c : sProp 𝕄)
    ⊢ iprop(cred (tallyAt (barCell c) () 3) ∗ cred (tallyAt (endCell c) () 3)
      ∗ bigSep Finset.univ fun p : Fin 5 => bigSep Finset.univ fun ch : Fin 8 => cred (tallyAt (recvCell c p ch) () (N p))) := by
  refine (creds_list c obs0).trans ?_
  rw [bigSep_five]
  unfold obs0 obs1 obs2 obs3 obs4
  simp only [credL, credL_append, credL_rem, bigSep_sep']
  have he (Φ : Fin 8 → sProp 𝕄) : iprop((bigSep Finset.univ Φ) ∗ bigSep Finset.univ fun _ : Fin 8 => iprop(emp)) ⊢ bigSep Finset.univ Φ := by
    iintro ⟨H, -⟩; iexact H
  iintro ⟨Hb0, Hb1, Hb2, ⟨H0, -⟩, ⟨H1, H2, -⟩, ⟨H3, H4, -⟩, He0, He1, He2, -⟩
  isplitl [Hb0 Hb1 Hb2]
  · iapply (three_units (barCell c))
    isplitl [Hb0]; · iexact Hb0
    isplitl [Hb1]; · iexact Hb1
    iexact Hb2
  isplitl [He0 He1 He2]
  · iapply (three_units (endCell c))
    isplitl [He0]; · iexact He0
    isplitl [He1]; · iexact He1
    iexact He2
  isplitl [H0]; · iexact H0
  isplitl [H1]; · iexact H1
  isplitl [H2]; · iexact H2
  isplitl [H3]; · iexact H3
  iexact H4

/-! ## The theorem's side conditions -/

variable (ρ : Dev nD → PrngReg)

theorem start_intro (c : Dev nD) :
    iprop(Pipeline.unscopedRestP Pipeline.Prefetch.none cfg0.spec c (fun b => m ((c : Thread nD τ).loc b)) ∗ levAts L lv
        ∗ Pipeline.launchCred (fun d => owedL d obs0) c ∗ prngReg c (ρ c) ∗ G' m c)
      ⊢ |={Set.univ}=> iprop(start m c ∗ emp) := by
  unfold start mine G' payToks
  iintro ⟨-, Hlev, Hcr, -, ⟨%K, HK, Hf, Htb, Hte, Hfare⟩⟩
  ihave Hc := (creds (F := F) c) $$ Hcr
  icases Hc with ⟨Hcb, Hce, Hcr⟩
  ihave Hf := (Entails.of_eq (bigSep_cells fun k => fresh (F := F) c k)) $$ Hf
  icases Hf with ⟨Hfb, Hfe, Hf⟩
  imodintro
  isplitl
  · iexists K
    isplitl [HK Hlev]
    · unfold knows
      isplitl [HK]; · iexact HK
      iexact Hlev
    isplitl [Hfb]; · iexact Hfb
    isplitl [Hfe]; · iexact Hfe
    isplitl [Hcb]; · iexact Hcb
    isplitl [Hce]; · iexact Hce
    isplitl [Htb]; · iexact Htb
    isplitl [Hte]; · iexact Hte
    isplitl [Hcr Hf]
    · unfold due
      simp only [bigSep_sep']
      isplitl [Hcr]; · iexact Hcr
      iexact Hf
    iexact Hfare
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr gAt sAt rAt
  iintro ⟨Hs, -, H⟩
  isplitl [Hs]; · iexact Hs
  iexact H

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, scopedRest0_eq]
  unfold Φ₁ scr gAt sAt rAt
  rw [counters_eq]
  iintro ⟨H, Hu, Ho⟩
  isplitl [Hu]; · iexact Hu
  isplitl [Ho]; · iexact Ho
  iexact H

theorem dec_stage : ∀ (w : Fin 3) (s : Fin (spec0 w).nbuf), dec (.dma ((spec0 w).sem s)) = none := fun w s => by
  unfold dec
  exact dif_neg fun ⟨k, hk⟩ => (by decide +kernel : ∀ (w : Fin 3) (s : Fin (spec0 w).nbuf) (k : CK), csem k ≠ .dma ((spec0 w).sem s)) w s k hk

theorem waits (c : Dev nD) : (levAts L lv : sProp 𝕄) ⊢ Pipeline.cellsWaits cfgs (dats m) () 0 c :=
  Pipeline.cellsWaits_intro cfgs (dats m) () 0 c fun w s t => by
    have hd : lvK (dec (.dma ((spec0 w).sem s))) = 0 := by rw [dec_stage]; rfl
    rcases t with ⟨_ | _, ht⟩
    · exact mayWait c _ obs0 fun o ho => lt_of_eq_of_lt hd (obs0_lvl o ho)
    · exact mayWait c _ [] fun o ho => absurd ho List.not_mem_nil

/-! ## The run -/

/-- A window's array after the run, as the data has it. -/
def finalA (c : Dev nD) (w : Fin cfg0.W) : Buf (Elt F) ((cfg0.win w).arr.view.loc (c : Thread nD τ)) := (dats m 0 c).arrAt w cfg0.N

set_option maxRecDepth 65536 in
/-- From any memory with its counters at zero every weakly fair run of the program on its eight devices ends, each
    device's three arrays as the data has them and every counter at zero. -/
theorem run_main : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ osem_facts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => owedL d obs0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- Every run ends with the argument arrays as they were and every counter at zero. -/
theorem run_frame : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c 0).trans ((dats m 0 c).arrAt_in 0 rfl _), (h.1 c 1).trans ((dats m 0 c).arrAt_in 1 rfl _)⟩, h.2⟩)
    (run_main m ρ)

end Cert.KernelIdealProof

end
-- ==== Proof.KernelIdeal.Value.lean ====
/-
The result's value over the extended reals: each entry is the sum, over the device's block of rows and its `x`
partner's, of the products of a column of `x` and a column of `dy`.
-/
module

public import proofs.«01_k».proof.Proof.KernelIdeal.Launch
public import Idealize.ShloMosaic.Lib.Pointwise

@[expose] public section

noncomputable section

namespace Cert.KernelIdealProof

open Cert.KernelIdeal Cert.KernelIdeal.Gen Idealize.ShloMosaic Idealize.ShloMosaic.TcCoe Idealize.SL.Sem

variable (m : (ℓ : Loc nD τ sig) → Buf (Elt Ideal) ℓ)

theorem bIdx_eq (r : Fin 128) (j : Fin 512) : bIdx r j = ix3 (0 : Fin 1) r j := by
  funext a
  match a with
  | ⟨0, _⟩ => rfl
  | ⟨1, _⟩ => rfl
  | ⟨2, _⟩ => rfl

theorem wIdx_eq (r : Fin 512) (j : Fin 512) : wIdx r j = ix2 r j := by
  funext a
  match a with
  | ⟨0, _⟩ => rfl
  | ⟨1, _⟩ => rfl

/-- A partial product at an index: the column of `x` against the chunk's column of `dy`. -/
theorem part_apply (ch : Fin 8) (y : FVec Ideal S1024x4096 .bf16) (x : Vec Ideal S1024x128 .bf16) (r : Fin 128) (j : Fin 512) :
    part ch y x (bIdx r j) = ∑ k : Fin 1024, x (ix2 k r) * y (ix2 k (⟨512 * ch.val + j.val, by omega⟩ : Fin 4096)) := by
  rw [bIdx_eq]
  pointwise [part]

theorem sumOf_apply (a b : Vec Ideal S1x128x512 .bf16) (r : Fin 128) (j : Fin 512) : sumOf a b (bIdx r j) = a (bIdx r j) + b (bIdx r j) := by
  rw [bIdx_eq]
  pointwise [sumOf, k0_pay15]

theorem widen_apply (a : Vec Ideal S1x512x512 .bf16) (r : Fin 512) (j : Fin 512) : widen a (wIdx r j) = a (ix3 (0 : Fin 1) r j) := by
  rw [wIdx_eq]
  pointwise [widen, k0_pay1]

/-- Device `c`'s blocks of the arguments. -/
def argX (c : Dev nD) : FVec Ideal S1024x1024 .bf16 := m ((c : Thread nD τ).loc main_arg0)
def argY (c : Dev nD) : FVec Ideal S1024x4096 .bf16 := m ((c : Thread nD τ).loc main_arg1)

/-- The products of column `R` of device `c`'s block of `x` and column `C` of its block of `dy`, summed over its rows. -/
def entry (c : Dev nD) (R : Fin 1024) (C : Fin 4096) : EReal := ∑ k : Fin 1024, argX m c (ix2 k R) * argY m c (ix2 k C)

theorem offs : ∀ d : Dev nD, k0_off1 (pt 0 d) = k0_off2 d ∧ k0_off2 d 0 = 0 ∧ k0_off2 d 1 < 897 := by decide +kernel

theorem xcol (c : Dev nD) (o : Fin 2 → ℕ) (ho : ∀ a, o a + S1024x128.size a ≤ S1024x1024.size a) (h0 : o 0 = 0) (R : Fin 1024) (r : Fin 128) (hR : R.val = o 1 + r.val)
    (k : Fin 1024) :
    (xM.view).readAt (Elt Ideal) (Rect.unit (s := S1024x1024) o S1024x128.size ho).toLoadRect (xstg m c) (ix2 k r)
      = argX m c (ix2 k R) := by
  show argX m c _ = _
  congr 1
  funext a
  match a with
  | ⟨0, _⟩ => exact Fin.ext (by show 0 + 1 * (o 0 + 1 * k.val) = k.val; omega)
  | ⟨1, _⟩ => exact Fin.ext (by show 0 + 1 * (o 1 + 1 * r.val) = R.val; omega)

set_option maxRecDepth 65536 in
theorem ycol (c : Dev nD) (k : Fin 1024) (C : Fin 4096) :
    yv m c (ix2 k C) = argY m c (ix2 k C) := by
  unfold yv k0_pay2
  rw [shapeCast_self]
  show argY m c _ = _
  congr 1
  funext a
  match a with
  | ⟨0, _⟩ => exact Fin.ext (by show 0 + 1 * (0 + 1 * k.val) = k.val; omega)
  | ⟨1, _⟩ => exact Fin.ext (by show 0 + 1 * (0 + 1 * C.val) = C.val; omega)

/-- The partial product of 128 columns of `x` from `o 1`, at an index. -/
theorem part_entry (c : Dev nD) (o : Fin 2 → ℕ) (ho : ∀ a, o a + S1024x128.size a ≤ S1024x1024.size a) (h0 : o 0 = 0) (ch : Fin 8) (r : Fin 128) (j : Fin 512)
    (R : Fin 1024) (hR : R.val = o 1 + r.val) (C : Fin 4096) (hC : C.val = 512 * ch.val + j.val) :
    part ch (yv m c) ((xM.view).readAt (Elt Ideal) (Rect.unit (s := S1024x1024) o S1024x128.size ho).toLoadRect (xstg m c)) (bIdx r j) = entry m c R C := by
  have hC' : (⟨512 * ch.val + j.val, hC ▸ C.isLt⟩ : Fin 4096) = C := Fin.ext hC.symm
  rw [part_apply, hC']
  refine Finset.sum_congr rfl fun k _ => ?_
  rw [xcol m c o ho h0 R r hR k, ycol m c k C]

theorem red_entry (ch : Fin 8) (d : Dev nD) (r : Fin 128) (j : Fin 512) (R : Fin 1024) (hR : R.val = k0_off2 d 1 + r.val) (C : Fin 4096) (hC : C.val = 512 * ch.val + j.val) :
    red m ch d (bIdx r j) = entry m d R C + entry m (pt 0 d) R C := by
  have h := offs d
  unfold red
  rw [sumOf_apply]
  exact congrArg₂ (· + ·) (part_entry m d _ (k0_off2_inb d) h.2.1 ch r j R hR C hC)
    (part_entry m (pt 0 d) _ (k0_off1_inb (pt 0 d)) (by rw [h.1]; exact h.2.1) ch r j R (by rw [h.1]; exact hR) C hC)

theorem off_row : ∀ (c : Dev nD) (b : Fin 4), k0_off2 (rowDev c b.val) 1 = 512 * (c.val / 4) + 128 * b.val
    ∧ (rowDev c b.val).val / 4 = c.val / 4 ∧ (pt 0 (rowDev c b.val)).val / 4 = 1 - c.val / 4 := by decide +kernel

/-- An entry of device `c`'s result: what the device finishing its row and that device's `x` partner contribute. -/
theorem outF_entry (c : Dev nD) (r : Fin 512) (C : Fin 4096) (R : Fin 1024) (hR : R.val = 512 * (c.val / 4) + r.val) :
    ∃ d : Dev nD, d.val / 4 = c.val / 4 ∧ (pt 0 d).val / 4 = 1 - c.val / 4
      ∧ (outF m c : S512x4096.Idx → Elt Ideal .f32) (ix2 r C) = entry m d R C + entry m (pt 0 d) R C := by
  have h := off_row c ⟨r.val / 128, by omega⟩
  refine ⟨rowDev c (r.val / 128), h.2.1, h.2.2, ?_⟩
  show widen _ (wIdx r ⟨C.val % 512, _⟩) = _
  rw [widen_apply]
  have e : (wRect ⟨C.val / 512, by omega⟩).emb (ix3 (0 : Fin 1) r (⟨C.val % 512, Nat.mod_lt _ (by decide)⟩ : Fin 512))
      = ix3 (⟨C.val / 512, by omega⟩ : Fin 8) r (⟨C.val % 512, Nat.mod_lt _ (by decide)⟩ : Fin 512) := by
    funext a
    match a with
    | ⟨0, _⟩ => exact Fin.ext (by show C.val / 512 + 1 * 0 = C.val / 512; omega)
    | ⟨1, _⟩ => exact Fin.ext (by show 0 + 1 * r.val = r.val; omega)
    | ⟨2, _⟩ => exact Fin.ext (by show 0 + 1 * (C.val % 512) = C.val % 512; omega)
  show gFin m c ((wRect ⟨C.val / 512, _⟩).emb _) = _
  rw [e]
  show red m ⟨C.val / 512, _⟩ (rowDev c (r.val / 128)) (bIdx ⟨r.val % 128, _⟩ ⟨C.val % 512, _⟩) = _
  exact red_entry m _ _ _ _ R (by rw [hR, h.1]; show _ = 512 * (c.val / 4) + 128 * (r.val / 128) + r.val % 128; omega) C (by show C.val = 512 * (C.val / 512) + C.val % 512; omega)

/-- The result's array after a run. -/
theorem final_out (c : Dev nD) : finalA m c (2 : Fin 3) = outF m c := by
  have hz : (fun a => (win0_2.index (0 : Fin 1)) a * main_v1.ty.shape.size a) = fun _ => 0 := funext fun a => by fin_cases a <;> decide
  have hr := Memref.read_access_unit_zero (Elt Ideal) main_v1 hz (fun a => by fin_cases a <;> decide) (finalA m c (2 : Fin 3))
  refine hr.symm.trans ?_
  unfold finalA
  rw [show cfg0.N = ((0 : Fin 1) : Fin cfg0.N).val + 1 from rfl, (dats m 0 c).arrAt_succ (2 : Fin 3) (0 : Fin 1)]
  rw [show (cfg0.win (2 : Fin 3)).flush (0 : Fin 1) = true from by decide, if_pos rfl]
  exact View.read_write_univ _ _

end Cert.KernelIdealProof

end
-- ==== Proof.Equation.lean ====
/-
The kernel's result is its block of the reference's: an entry of the reference sums over all 2048 rows, and the two
devices whose contributions the kernel adds hold 1024 of them each.
-/
module

public import proofs.«01_k».proof.Proof.KernelIdeal.Value
public import proofs.«01_k».proof.Proof.Gen.ReferenceIdeal.Run
public import proofs.«01_k».proof.Defs

@[expose] public section

noncomputable section

namespace Cert.Equation

open Idealize.ShloMosaic Idealize.ShloMosaic.TcCoe Idealize.SL.Sem
open Cert.KernelIdealProof

/-- The reference's result of the whole arrays `A` and `B`. -/
def product (A : FVec Ideal Cert.ReferenceIdeal.S2048x1024 .bf16) (B : FVec Ideal Cert.ReferenceIdeal.S2048x4096 .bf16) : FVec Ideal Cert.ReferenceIdeal.S1024x4096 .f32 :=
  extf .f32
    (truncf .bf16
      (Host.dotGeneral Cert.ReferenceIdeal.dot_S1024x2048_S2048x4096_S1024x4096_1_0_0_1_n_n none
        (transpose Cert.ReferenceIdeal.S1024x2048 [1, 0] A Cert.ReferenceIdeal.Facts₀.transposes_S2048x1024_S1024x2048_1_0) B)
      Cert.ReferenceIdeal.Facts₀.bitsLt_bf16_f32)
    Cert.ReferenceIdeal.Facts₀.bitsLt_bf16_f32

/-- An entry of it: a column of `A` against a column of `B`. -/
theorem product_apply (A : FVec Ideal Cert.ReferenceIdeal.S2048x1024 .bf16) (B : FVec Ideal Cert.ReferenceIdeal.S2048x4096 .bf16) (R : Fin 1024) (C : Fin 4096) :
    product A B (ix2 R C) = ∑ k : Fin 2048, A (ix2 k R) * B (ix2 k C) := by
  pointwise [product]

variable (m : (ℓ : Loc Cert.KernelIdeal.nD Cert.KernelIdeal.τ Cert.KernelIdeal.sig) → Buf (Elt Ideal) ℓ)
variable (A : FVec Ideal Cert.ReferenceIdeal.S2048x1024 .bf16) (B : FVec Ideal Cert.ReferenceIdeal.S2048x4096 .bf16)

/-- Device `c`'s block coordinates in an array whose rows are cut over the mesh's first axis. -/
abbrev rowsOf (c : Dev Cert.KernelIdeal.nD) : (b : Fin 2) → Fin (Layout.cutSize [2, 2, 2] ((![[0], []] : Fin 2 → List ℕ) b)) :=
  Layout.meshBlock [2, 2, 2] ![[0], []] c

theorem place : ∀ c : Dev Cert.KernelIdeal.nD, (rowsOf c 0).val = c.val / 4 ∧ (rowsOf c 1).val = 0
    ∧ c.val / 4 < 2 := by decide +kernel

/-- Where an entry of device `c`'s block of an array cut into two blocks of rows is in the whole array. -/
theorem block_ix2 {α : Type} {n k : ℕ} (c : Dev Cert.KernelIdeal.nD) (v : (⟨2, ![2 * n, k]⟩ : Shape).Idx → α)
    (h : Layout.TilesN ⟨2, ![n, k]⟩ ⟨2, ![2 * n, k]⟩ fun b => Layout.cutSize [2, 2, 2] ((![[0], []] : Fin 2 → List ℕ) b)) (a : Fin n) (b : Fin k) (i : Fin (2 * n)) (hi : i.val = n * (c.val / 4) + a.val) :
    Layout.blockN ⟨2, ![n, k]⟩ ⟨2, ![2 * n, k]⟩ (rowsOf c) v h (ix2 a b) = v (ix2 i b) := by
  have hp := place c
  rw [Layout.blockN_apply]
  congr 1
  funext x
  match x with
  | ⟨0, _⟩ => exact Fin.ext (by
      show (rowsOf c 0).val * n + a.val = i.val
      rw [hp.1, hi, Nat.mul_comm])
  | ⟨1, _⟩ => exact Fin.ext (by
      show (rowsOf c 1).val * k + b.val = b.val
      rw [hp.2.1]; omega)

/-- Device `d`'s contribution to an entry: the reference's sum over that device's rows. -/
theorem entry_eq (hA : ∀ c, argX m c = Layout.blockN ⟨2, ![1024, 1024]⟩ ⟨2, ![2048, 1024]⟩ (rowsOf c) A)
    (hB : ∀ c, argY m c = Layout.blockN ⟨2, ![1024, 4096]⟩ ⟨2, ![2048, 4096]⟩ (rowsOf c) B)
    (d : Dev Cert.KernelIdeal.nD) (b : ℕ) (hb : b < 2) (hd : d.val / 4 = b) (R : Fin 1024) (C : Fin 4096) :
    entry m d R C = ∑ k : Fin 1024, A (ix2 (⟨1024 * b + k.val, by omega⟩ : Fin 2048) R) * B (ix2 (⟨1024 * b + k.val, by omega⟩ : Fin 2048) C) := by
  unfold entry
  refine Finset.sum_congr rfl fun k _ => ?_
  rw [hA, hB]
  exact congrArg₂ (· * ·) (block_ix2 (n := 1024) d A _ k R _ (by rw [hd])) (block_ix2 (n := 1024) d B _ k C _ (by rw [hd]))

/-- A sum over 2048 rows, as the sums over either half, in either order. -/
theorem halves (f : Fin 2048 → EReal) (b : ℕ) (hb : b < 2) :
    (∑ k : Fin 1024, f ⟨1024 * b + k.val, by omega⟩) + (∑ k : Fin 1024, f ⟨1024 * (1 - b) + k.val, by omega⟩) = ∑ k, f k := by
  rw [Fin.sum_univ_two_halves 1024 1024 rfl f]
  have h0 : ∀ k : Fin 1024, (⟨1024 * 0 + k.val, by omega⟩ : Fin 2048) = ⟨k.val, by omega⟩ := fun k => Fin.ext (by simp)
  have h1 : ∀ k : Fin 1024, (⟨1024 * 1 + k.val, by omega⟩ : Fin 2048) = ⟨1024 + k.val, by omega⟩ := fun k => Fin.ext (by simp)
  obtain rfl | rfl : b = 0 ∨ b = 1 := by omega
  · simp only [Nat.sub_zero, h0, h1]
  · simp only [Nat.sub_self, h0, h1]; exact add_comm _ _

/-- Device `c`'s result is its block of rows of the product. -/
theorem result_eq (hA : ∀ c, argX m c = Layout.blockN ⟨2, ![1024, 1024]⟩ ⟨2, ![2048, 1024]⟩ (rowsOf c) A)
    (hB : ∀ c, argY m c = Layout.blockN ⟨2, ![1024, 4096]⟩ ⟨2, ![2048, 4096]⟩ (rowsOf c) B) (c : Dev Cert.KernelIdeal.nD) :
    (outF m c : FVec Ideal Cert.KernelIdeal.S512x4096 .f32)
      = Layout.blockN ⟨2, ![512, 4096]⟩ ⟨2, ![1024, 4096]⟩ (rowsOf c) (product A B) := by
  funext i
  obtain ⟨r, C, rfl⟩ : ∃ (r : Fin 512) (C : Fin 4096), i = ix2 r C := ⟨i 0, i 1, eq_ix2 i⟩
  have hc := (place c).2.2
  obtain ⟨d, hd, hd', he⟩ := outF_entry m c r C ⟨512 * (c.val / 4) + r.val, by omega⟩ rfl
  rw [he, entry_eq m A B hA hB d _ hc hd, entry_eq m A B hA hB _ _ (by omega) hd']
  refine Eq.trans ?_ (block_ix2 (n := 512) c (product A B) _ r C ⟨512 * (c.val / 4) + r.val, by omega⟩ rfl).symm
  rw [product_apply]
  exact halves (fun k => A (ix2 k _) * B (ix2 k C)) (c.val / 4) hc

/-- The kernel and the reference compute the same function over the extended reals. -/
theorem algebraic : Cert.algebraic_KernelIdeal_ReferenceIdeal (hKernelIdeal := Cert.KernelIdeal.Gen.facts) (hReferenceIdeal := Cert.ReferenceIdeal.Gen.facts) := by
  intro m g m' g' _ hargs
  refine ⟨product (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run _ _ _).mono (fun r h c => ⟨?_, (h.1 c 0).trans ((dats m 0 c).arrAt_in 0 rfl _), (h.1 c 1).trans ((dats m 0 c).arrAt_in 1 rfl _)⟩) (run_main m g)
    exact ((h.1 c 2).trans (final_out m c)).trans (result_eq m _ _ (fun c => (hargs c).1) (fun c => (hargs c).2) c)
  · exact (θ_run _ _ _).mono (fun r h => h 0) (Cert.ReferenceIdeal.Value.run m' g')

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.KernelProof.run_frame m g,
  fun m g _ => Cert.KernelIdealProof.run_frame m g,
  fun m g _ => (θ_run _ _ _).mono (fun r h => ⟨fun c => ⟨(h c).2.1, (h c).2.2⟩, sem_eq_zero_of_no_sems rfl _⟩) (Cert.ReferenceIdeal.Value.run m g),
  trivial, Cert.Equation.algebraic⟩

end Cert.Proof

end
